-- ==== Defs.lean ====
def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpKernelIdeal_lse_finite [hPre_lse_finite : Cert.Pre_lse_finite.Facts] (m : (ℓ : Loc Cert.MlpKernelIdeal.nD Cert.MlpKernelIdeal.τ Cert.MlpKernelIdeal.sig) → Buf (Elt Ideal) ℓ) : Prop :=
  ∀ c : Dev Cert.MlpKernelIdeal.nD,
    (Cert.Pre_lse_finite.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7)) (m ((c.tc : Thread Cert.MlpKernelIdeal.nD Cert.MlpKernelIdeal.τ).loc Cert.MlpKernelIdeal.main_arg8)) (m ((c.tc : Thread Cert.MlpKernelIdeal.nD Cert.MlpKernelIdeal.τ).loc Cert.MlpKernelIdeal.main_arg9)) (m ((c.tc : Thread Cert.MlpKernelIdeal.nD Cert.MlpKernelIdeal.τ).loc Cert.MlpKernelIdeal.main_arg10)) (m ((c.tc : Thread Cert.MlpKernelIdeal.nD Cert.MlpKernelIdeal.τ).loc Cert.MlpKernelIdeal.main_arg11)) (m ((c.tc : Thread Cert.MlpKernelIdeal.nD Cert.MlpKernelIdeal.τ).loc Cert.MlpKernelIdeal.main_arg12)) (m ((c.tc : Thread Cert.MlpKernelIdeal.nD Cert.MlpKernelIdeal.τ).loc Cert.MlpKernelIdeal.main_arg13)) (m ((c.tc : Thread Cert.MlpKernelIdeal.nD Cert.MlpKernelIdeal.τ).loc Cert.MlpKernelIdeal.main_arg14)) (m ((c.tc : Thread Cert.MlpKernelIdeal.nD Cert.MlpKernelIdeal.τ).loc Cert.MlpKernelIdeal.main_arg15)) (m ((c.tc : Thread Cert.MlpKernelIdeal.nD Cert.MlpKernelIdeal.τ).loc Cert.MlpKernelIdeal.main_arg16)) (m ((c.tc : Thread Cert.MlpKernelIdeal.nD Cert.MlpKernelIdeal.τ).loc Cert.MlpKernelIdeal.main_arg17)) (m ((c.tc : Thread Cert.MlpKernelIdeal.nD Cert.MlpKernelIdeal.τ).loc Cert.MlpKernelIdeal.main_arg18))) = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_lse_finite [hPre_lse_finite : Cert.Pre_lse_finite.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_lse_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7)) (m ((c.tc : Thread Cert.MlpReferenceIdeal.nD Cert.MlpReferenceIdeal.τ).loc Cert.MlpReferenceIdeal.main_arg8)) (m ((c.tc : Thread Cert.MlpReferenceIdeal.nD Cert.MlpReferenceIdeal.τ).loc Cert.MlpReferenceIdeal.main_arg9)) (m ((c.tc : Thread Cert.MlpReferenceIdeal.nD Cert.MlpReferenceIdeal.τ).loc Cert.MlpReferenceIdeal.main_arg10)) (m ((c.tc : Thread Cert.MlpReferenceIdeal.nD Cert.MlpReferenceIdeal.τ).loc Cert.MlpReferenceIdeal.main_arg11)) (m ((c.tc : Thread Cert.MlpReferenceIdeal.nD Cert.MlpReferenceIdeal.τ).loc Cert.MlpReferenceIdeal.main_arg12)) (m ((c.tc : Thread Cert.MlpReferenceIdeal.nD Cert.MlpReferenceIdeal.τ).loc Cert.MlpReferenceIdeal.main_arg13)) (m ((c.tc : Thread Cert.MlpReferenceIdeal.nD Cert.MlpReferenceIdeal.τ).loc Cert.MlpReferenceIdeal.main_arg14)) (m ((c.tc : Thread Cert.MlpReferenceIdeal.nD Cert.MlpReferenceIdeal.τ).loc Cert.MlpReferenceIdeal.main_arg15)) (m ((c.tc : Thread Cert.MlpReferenceIdeal.nD Cert.MlpReferenceIdeal.τ).loc Cert.MlpReferenceIdeal.main_arg16)) (m ((c.tc : Thread Cert.MlpReferenceIdeal.nD Cert.MlpReferenceIdeal.τ).loc Cert.MlpReferenceIdeal.main_arg17)) (m ((c.tc : Thread Cert.MlpReferenceIdeal.nD Cert.MlpReferenceIdeal.τ).loc Cert.MlpReferenceIdeal.main_arg18))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4)
      ∧ r.2.mem ((c.tc : Thread Cert.MlpKernel.nD Cert.MlpKernel.τ).loc Cert.MlpKernel.main_arg5) = m ((c.tc : Thread Cert.MlpKernel.nD Cert.MlpKernel.τ).loc Cert.MlpKernel.main_arg5)
      ∧ r.2.mem ((c.tc : Thread Cert.MlpKernel.nD Cert.MlpKernel.τ).loc Cert.MlpKernel.main_arg6) = m ((c.tc : Thread Cert.MlpKernel.nD Cert.MlpKernel.τ).loc Cert.MlpKernel.main_arg6)
      ∧ r.2.mem ((c.tc : Thread Cert.MlpKernel.nD Cert.MlpKernel.τ).loc Cert.MlpKernel.main_arg7) = m ((c.tc : Thread Cert.MlpKernel.nD Cert.MlpKernel.τ).loc Cert.MlpKernel.main_arg7)
      ∧ r.2.mem ((c.tc : Thread Cert.MlpKernel.nD Cert.MlpKernel.τ).loc Cert.MlpKernel.main_arg8) = m ((c.tc : Thread Cert.MlpKernel.nD Cert.MlpKernel.τ).loc Cert.MlpKernel.main_arg8)
      ∧ r.2.mem ((c.tc : Thread Cert.MlpKernel.nD Cert.MlpKernel.τ).loc Cert.MlpKernel.main_arg9) = m ((c.tc : Thread Cert.MlpKernel.nD Cert.MlpKernel.τ).loc Cert.MlpKernel.main_arg9)
      ∧ r.2.mem ((c.tc : Thread Cert.MlpKernel.nD Cert.MlpKernel.τ).loc Cert.MlpKernel.main_arg10) = m ((c.tc : Thread Cert.MlpKernel.nD Cert.MlpKernel.τ).loc Cert.MlpKernel.main_arg10)
      ∧ r.2.mem ((c.tc : Thread Cert.MlpKernel.nD Cert.MlpKernel.τ).loc Cert.MlpKernel.main_arg11) = m ((c.tc : Thread Cert.MlpKernel.nD Cert.MlpKernel.τ).loc Cert.MlpKernel.main_arg11)
      ∧ r.2.mem ((c.tc : Thread Cert.MlpKernel.nD Cert.MlpKernel.τ).loc Cert.MlpKernel.main_arg12) = m ((c.tc : Thread Cert.MlpKernel.nD Cert.MlpKernel.τ).loc Cert.MlpKernel.main_arg12)
      ∧ r.2.mem ((c.tc : Thread Cert.MlpKernel.nD Cert.MlpKernel.τ).loc Cert.MlpKernel.main_arg13) = m ((c.tc : Thread Cert.MlpKernel.nD Cert.MlpKernel.τ).loc Cert.MlpKernel.main_arg13)
      ∧ r.2.mem ((c.tc : Thread Cert.MlpKernel.nD Cert.MlpKernel.τ).loc Cert.MlpKernel.main_arg14) = m ((c.tc : Thread Cert.MlpKernel.nD Cert.MlpKernel.τ).loc Cert.MlpKernel.main_arg14)
      ∧ r.2.mem ((c.tc : Thread Cert.MlpKernel.nD Cert.MlpKernel.τ).loc Cert.MlpKernel.main_arg15) = m ((c.tc : Thread Cert.MlpKernel.nD Cert.MlpKernel.τ).loc Cert.MlpKernel.main_arg15)
      ∧ r.2.mem ((c.tc : Thread Cert.MlpKernel.nD Cert.MlpKernel.τ).loc Cert.MlpKernel.main_arg16) = m ((c.tc : Thread Cert.MlpKernel.nD Cert.MlpKernel.τ).loc Cert.MlpKernel.main_arg16)
      ∧ r.2.mem ((c.tc : Thread Cert.MlpKernel.nD Cert.MlpKernel.τ).loc Cert.MlpKernel.main_arg17) = m ((c.tc : Thread Cert.MlpKernel.nD Cert.MlpKernel.τ).loc Cert.MlpKernel.main_arg17)
      ∧ r.2.mem ((c.tc : Thread Cert.MlpKernel.nD Cert.MlpKernel.τ).loc Cert.MlpKernel.main_arg18) = m ((c.tc : Thread Cert.MlpKernel.nD Cert.MlpKernel.τ).loc Cert.MlpKernel.main_arg18))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
      ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7)
      ∧ r.2.mem ((c.tc : Thread Cert.MlpKernelIdeal.nD Cert.MlpKernelIdeal.τ).loc Cert.MlpKernelIdeal.main_arg8) = m ((c.tc : Thread Cert.MlpKernelIdeal.nD Cert.MlpKernelIdeal.τ).loc Cert.MlpKernelIdeal.main_arg8)
      ∧ r.2.mem ((c.tc : Thread Cert.MlpKernelIdeal.nD Cert.MlpKernelIdeal.τ).loc Cert.MlpKernelIdeal.main_arg9) = m ((c.tc : Thread Cert.MlpKernelIdeal.nD Cert.MlpKernelIdeal.τ).loc Cert.MlpKernelIdeal.main_arg9)
      ∧ r.2.mem ((c.tc : Thread Cert.MlpKernelIdeal.nD Cert.MlpKernelIdeal.τ).loc Cert.MlpKernelIdeal.main_arg10) = m ((c.tc : Thread Cert.MlpKernelIdeal.nD Cert.MlpKernelIdeal.τ).loc Cert.MlpKernelIdeal.main_arg10)
      ∧ r.2.mem ((c.tc : Thread Cert.MlpKernelIdeal.nD Cert.MlpKernelIdeal.τ).loc Cert.MlpKernelIdeal.main_arg11) = m ((c.tc : Thread Cert.MlpKernelIdeal.nD Cert.MlpKernelIdeal.τ).loc Cert.MlpKernelIdeal.main_arg11)
      ∧ r.2.mem ((c.tc : Thread Cert.MlpKernelIdeal.nD Cert.MlpKernelIdeal.τ).loc Cert.MlpKernelIdeal.main_arg12) = m ((c.tc : Thread Cert.MlpKernelIdeal.nD Cert.MlpKernelIdeal.τ).loc Cert.MlpKernelIdeal.main_arg12)
      ∧ r.2.mem ((c.tc : Thread Cert.MlpKernelIdeal.nD Cert.MlpKernelIdeal.τ).loc Cert.MlpKernelIdeal.main_arg13) = m ((c.tc : Thread Cert.MlpKernelIdeal.nD Cert.MlpKernelIdeal.τ).loc Cert.MlpKernelIdeal.main_arg13)
      ∧ r.2.mem ((c.tc : Thread Cert.MlpKernelIdeal.nD Cert.MlpKernelIdeal.τ).loc Cert.MlpKernelIdeal.main_arg14) = m ((c.tc : Thread Cert.MlpKernelIdeal.nD Cert.MlpKernelIdeal.τ).loc Cert.MlpKernelIdeal.main_arg14)
      ∧ r.2.mem ((c.tc : Thread Cert.MlpKernelIdeal.nD Cert.MlpKernelIdeal.τ).loc Cert.MlpKernelIdeal.main_arg15) = m ((c.tc : Thread Cert.MlpKernelIdeal.nD Cert.MlpKernelIdeal.τ).loc Cert.MlpKernelIdeal.main_arg15)
      ∧ r.2.mem ((c.tc : Thread Cert.MlpKernelIdeal.nD Cert.MlpKernelIdeal.τ).loc Cert.MlpKernelIdeal.main_arg16) = m ((c.tc : Thread Cert.MlpKernelIdeal.nD Cert.MlpKernelIdeal.τ).loc Cert.MlpKernelIdeal.main_arg16)
      ∧ r.2.mem ((c.tc : Thread Cert.MlpKernelIdeal.nD Cert.MlpKernelIdeal.τ).loc Cert.MlpKernelIdeal.main_arg17) = m ((c.tc : Thread Cert.MlpKernelIdeal.nD Cert.MlpKernelIdeal.τ).loc Cert.MlpKernelIdeal.main_arg17)
      ∧ r.2.mem ((c.tc : Thread Cert.MlpKernelIdeal.nD Cert.MlpKernelIdeal.τ).loc Cert.MlpKernelIdeal.main_arg18) = m ((c.tc : Thread Cert.MlpKernelIdeal.nD Cert.MlpKernelIdeal.τ).loc Cert.MlpKernelIdeal.main_arg18))
      ∧ r.2.sem = fun _ => 0)

def quiescent_MlpKernelIdeal_pre_lse_finite [hMlpKernelIdeal : Cert.MlpKernelIdeal.Facts] [hPre_lse_finite : Cert.Pre_lse_finite.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal_lse_finite m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
      ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7)
      ∧ r.2.mem ((c.tc : Thread Cert.MlpKernelIdeal.nD Cert.MlpKernelIdeal.τ).loc Cert.MlpKernelIdeal.main_arg8) = m ((c.tc : Thread Cert.MlpKernelIdeal.nD Cert.MlpKernelIdeal.τ).loc Cert.MlpKernelIdeal.main_arg8)
      ∧ r.2.mem ((c.tc : Thread Cert.MlpKernelIdeal.nD Cert.MlpKernelIdeal.τ).loc Cert.MlpKernelIdeal.main_arg9) = m ((c.tc : Thread Cert.MlpKernelIdeal.nD Cert.MlpKernelIdeal.τ).loc Cert.MlpKernelIdeal.main_arg9)
      ∧ r.2.mem ((c.tc : Thread Cert.MlpKernelIdeal.nD Cert.MlpKernelIdeal.τ).loc Cert.MlpKernelIdeal.main_arg10) = m ((c.tc : Thread Cert.MlpKernelIdeal.nD Cert.MlpKernelIdeal.τ).loc Cert.MlpKernelIdeal.main_arg10)
      ∧ r.2.mem ((c.tc : Thread Cert.MlpKernelIdeal.nD Cert.MlpKernelIdeal.τ).loc Cert.MlpKernelIdeal.main_arg11) = m ((c.tc : Thread Cert.MlpKernelIdeal.nD Cert.MlpKernelIdeal.τ).loc Cert.MlpKernelIdeal.main_arg11)
      ∧ r.2.mem ((c.tc : Thread Cert.MlpKernelIdeal.nD Cert.MlpKernelIdeal.τ).loc Cert.MlpKernelIdeal.main_arg12) = m ((c.tc : Thread Cert.MlpKernelIdeal.nD Cert.MlpKernelIdeal.τ).loc Cert.MlpKernelIdeal.main_arg12)
      ∧ r.2.mem ((c.tc : Thread Cert.MlpKernelIdeal.nD Cert.MlpKernelIdeal.τ).loc Cert.MlpKernelIdeal.main_arg13) = m ((c.tc : Thread Cert.MlpKernelIdeal.nD Cert.MlpKernelIdeal.τ).loc Cert.MlpKernelIdeal.main_arg13)
      ∧ r.2.mem ((c.tc : Thread Cert.MlpKernelIdeal.nD Cert.MlpKernelIdeal.τ).loc Cert.MlpKernelIdeal.main_arg14) = m ((c.tc : Thread Cert.MlpKernelIdeal.nD Cert.MlpKernelIdeal.τ).loc Cert.MlpKernelIdeal.main_arg14)
      ∧ r.2.mem ((c.tc : Thread Cert.MlpKernelIdeal.nD Cert.MlpKernelIdeal.τ).loc Cert.MlpKernelIdeal.main_arg15) = m ((c.tc : Thread Cert.MlpKernelIdeal.nD Cert.MlpKernelIdeal.τ).loc Cert.MlpKernelIdeal.main_arg15)
      ∧ r.2.mem ((c.tc : Thread Cert.MlpKernelIdeal.nD Cert.MlpKernelIdeal.τ).loc Cert.MlpKernelIdeal.main_arg16) = m ((c.tc : Thread Cert.MlpKernelIdeal.nD Cert.MlpKernelIdeal.τ).loc Cert.MlpKernelIdeal.main_arg16)
      ∧ r.2.mem ((c.tc : Thread Cert.MlpKernelIdeal.nD Cert.MlpKernelIdeal.τ).loc Cert.MlpKernelIdeal.main_arg17) = m ((c.tc : Thread Cert.MlpKernelIdeal.nD Cert.MlpKernelIdeal.τ).loc Cert.MlpKernelIdeal.main_arg17)
      ∧ r.2.mem ((c.tc : Thread Cert.MlpKernelIdeal.nD Cert.MlpKernelIdeal.τ).loc Cert.MlpKernelIdeal.main_arg18) = m ((c.tc : Thread Cert.MlpKernelIdeal.nD Cert.MlpKernelIdeal.τ).loc Cert.MlpKernelIdeal.main_arg18))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
      ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11)
      ∧ r.2.mem ((c.tc : Thread Cert.MlpReferenceIdeal.nD Cert.MlpReferenceIdeal.τ).loc Cert.MlpReferenceIdeal.main_arg12) = m ((c.tc : Thread Cert.MlpReferenceIdeal.nD Cert.MlpReferenceIdeal.τ).loc Cert.MlpReferenceIdeal.main_arg12)
      ∧ r.2.mem ((c.tc : Thread Cert.MlpReferenceIdeal.nD Cert.MlpReferenceIdeal.τ).loc Cert.MlpReferenceIdeal.main_arg13) = m ((c.tc : Thread Cert.MlpReferenceIdeal.nD Cert.MlpReferenceIdeal.τ).loc Cert.MlpReferenceIdeal.main_arg13)
      ∧ r.2.mem ((c.tc : Thread Cert.MlpReferenceIdeal.nD Cert.MlpReferenceIdeal.τ).loc Cert.MlpReferenceIdeal.main_arg14) = m ((c.tc : Thread Cert.MlpReferenceIdeal.nD Cert.MlpReferenceIdeal.τ).loc Cert.MlpReferenceIdeal.main_arg14)
      ∧ r.2.mem ((c.tc : Thread Cert.MlpReferenceIdeal.nD Cert.MlpReferenceIdeal.τ).loc Cert.MlpReferenceIdeal.main_arg15) = m ((c.tc : Thread Cert.MlpReferenceIdeal.nD Cert.MlpReferenceIdeal.τ).loc Cert.MlpReferenceIdeal.main_arg15)
      ∧ r.2.mem ((c.tc : Thread Cert.MlpReferenceIdeal.nD Cert.MlpReferenceIdeal.τ).loc Cert.MlpReferenceIdeal.main_arg16) = m ((c.tc : Thread Cert.MlpReferenceIdeal.nD Cert.MlpReferenceIdeal.τ).loc Cert.MlpReferenceIdeal.main_arg16)
      ∧ r.2.mem ((c.tc : Thread Cert.MlpReferenceIdeal.nD Cert.MlpReferenceIdeal.τ).loc Cert.MlpReferenceIdeal.main_arg17) = m ((c.tc : Thread Cert.MlpReferenceIdeal.nD Cert.MlpReferenceIdeal.τ).loc Cert.MlpReferenceIdeal.main_arg17)
      ∧ r.2.mem ((c.tc : Thread Cert.MlpReferenceIdeal.nD Cert.MlpReferenceIdeal.τ).loc Cert.MlpReferenceIdeal.main_arg18) = m ((c.tc : Thread Cert.MlpReferenceIdeal.nD Cert.MlpReferenceIdeal.τ).loc Cert.MlpReferenceIdeal.main_arg18))
      ∧ r.2.sem = fun _ => 0)

def quiescent_MlpReferenceIdeal_pre_lse_finite [hMlpReferenceIdeal : Cert.MlpReferenceIdeal.Facts] [hPre_lse_finite : Cert.Pre_lse_finite.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_lse_finite m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
      ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11)
      ∧ r.2.mem ((c.tc : Thread Cert.MlpReferenceIdeal.nD Cert.MlpReferenceIdeal.τ).loc Cert.MlpReferenceIdeal.main_arg12) = m ((c.tc : Thread Cert.MlpReferenceIdeal.nD Cert.MlpReferenceIdeal.τ).loc Cert.MlpReferenceIdeal.main_arg12)
      ∧ r.2.mem ((c.tc : Thread Cert.MlpReferenceIdeal.nD Cert.MlpReferenceIdeal.τ).loc Cert.MlpReferenceIdeal.main_arg13) = m ((c.tc : Thread Cert.MlpReferenceIdeal.nD Cert.MlpReferenceIdeal.τ).loc Cert.MlpReferenceIdeal.main_arg13)
      ∧ r.2.mem ((c.tc : Thread Cert.MlpReferenceIdeal.nD Cert.MlpReferenceIdeal.τ).loc Cert.MlpReferenceIdeal.main_arg14) = m ((c.tc : Thread Cert.MlpReferenceIdeal.nD Cert.MlpReferenceIdeal.τ).loc Cert.MlpReferenceIdeal.main_arg14)
      ∧ r.2.mem ((c.tc : Thread Cert.MlpReferenceIdeal.nD Cert.MlpReferenceIdeal.τ).loc Cert.MlpReferenceIdeal.main_arg15) = m ((c.tc : Thread Cert.MlpReferenceIdeal.nD Cert.MlpReferenceIdeal.τ).loc Cert.MlpReferenceIdeal.main_arg15)
      ∧ r.2.mem ((c.tc : Thread Cert.MlpReferenceIdeal.nD Cert.MlpReferenceIdeal.τ).loc Cert.MlpReferenceIdeal.main_arg16) = m ((c.tc : Thread Cert.MlpReferenceIdeal.nD Cert.MlpReferenceIdeal.τ).loc Cert.MlpReferenceIdeal.main_arg16)
      ∧ r.2.mem ((c.tc : Thread Cert.MlpReferenceIdeal.nD Cert.MlpReferenceIdeal.τ).loc Cert.MlpReferenceIdeal.main_arg17) = m ((c.tc : Thread Cert.MlpReferenceIdeal.nD Cert.MlpReferenceIdeal.τ).loc Cert.MlpReferenceIdeal.main_arg17)
      ∧ r.2.mem ((c.tc : Thread Cert.MlpReferenceIdeal.nD Cert.MlpReferenceIdeal.τ).loc Cert.MlpReferenceIdeal.main_arg18) = m ((c.tc : Thread Cert.MlpReferenceIdeal.nD Cert.MlpReferenceIdeal.τ).loc Cert.MlpReferenceIdeal.main_arg18))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7))
      ∧ r.2.sem = fun _ => 0)

def preserves_MlpKernel_MlpKernelIdeal : Prop :=
  True

def algebraic_MlpKernelIdeal_MlpReferenceIdeal_pre_lse_finite [hMlpKernelIdeal : Cert.MlpKernelIdeal.Facts] [hMlpReferenceIdeal : Cert.MlpReferenceIdeal.Facts] [hPre_lse_finite : Cert.Pre_lse_finite.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal_lse_finite m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)
      ∧ m' ((c.tc : Thread Cert.MlpReferenceIdeal.nD Cert.MlpReferenceIdeal.τ).loc Cert.MlpReferenceIdeal.main_arg5) = m ((c.tc : Thread Cert.MlpKernelIdeal.nD Cert.MlpKernelIdeal.τ).loc Cert.MlpKernelIdeal.main_arg5)
      ∧ m' ((c.tc : Thread Cert.MlpReferenceIdeal.nD Cert.MlpReferenceIdeal.τ).loc Cert.MlpReferenceIdeal.main_arg6) = m ((c.tc : Thread Cert.MlpKernelIdeal.nD Cert.MlpKernelIdeal.τ).loc Cert.MlpKernelIdeal.main_arg6)
      ∧ m' ((c.tc : Thread Cert.MlpReferenceIdeal.nD Cert.MlpReferenceIdeal.τ).loc Cert.MlpReferenceIdeal.main_arg7) = m ((c.tc : Thread Cert.MlpKernelIdeal.nD Cert.MlpKernelIdeal.τ).loc Cert.MlpKernelIdeal.main_arg7)
      ∧ m' ((c.tc : Thread Cert.MlpReferenceIdeal.nD Cert.MlpReferenceIdeal.τ).loc Cert.MlpReferenceIdeal.main_arg8) = m ((c.tc : Thread Cert.MlpKernelIdeal.nD Cert.MlpKernelIdeal.τ).loc Cert.MlpKernelIdeal.main_arg8)
      ∧ m' ((c.tc : Thread Cert.MlpReferenceIdeal.nD Cert.MlpReferenceIdeal.τ).loc Cert.MlpReferenceIdeal.main_arg9) = m ((c.tc : Thread Cert.MlpKernelIdeal.nD Cert.MlpKernelIdeal.τ).loc Cert.MlpKernelIdeal.main_arg9)
      ∧ m' ((c.tc : Thread Cert.MlpReferenceIdeal.nD Cert.MlpReferenceIdeal.τ).loc Cert.MlpReferenceIdeal.main_arg10) = m ((c.tc : Thread Cert.MlpKernelIdeal.nD Cert.MlpKernelIdeal.τ).loc Cert.MlpKernelIdeal.main_arg10)
      ∧ m' ((c.tc : Thread Cert.MlpReferenceIdeal.nD Cert.MlpReferenceIdeal.τ).loc Cert.MlpReferenceIdeal.main_arg11) = m ((c.tc : Thread Cert.MlpKernelIdeal.nD Cert.MlpKernelIdeal.τ).loc Cert.MlpKernelIdeal.main_arg11)
      ∧ m' ((c.tc : Thread Cert.MlpReferenceIdeal.nD Cert.MlpReferenceIdeal.τ).loc Cert.MlpReferenceIdeal.main_arg12) = m ((c.tc : Thread Cert.MlpKernelIdeal.nD Cert.MlpKernelIdeal.τ).loc Cert.MlpKernelIdeal.main_arg12)
      ∧ m' ((c.tc : Thread Cert.MlpReferenceIdeal.nD Cert.MlpReferenceIdeal.τ).loc Cert.MlpReferenceIdeal.main_arg13) = m ((c.tc : Thread Cert.MlpKernelIdeal.nD Cert.MlpKernelIdeal.τ).loc Cert.MlpKernelIdeal.main_arg13)
      ∧ m' ((c.tc : Thread Cert.MlpReferenceIdeal.nD Cert.MlpReferenceIdeal.τ).loc Cert.MlpReferenceIdeal.main_arg14) = m ((c.tc : Thread Cert.MlpKernelIdeal.nD Cert.MlpKernelIdeal.τ).loc Cert.MlpKernelIdeal.main_arg14)
      ∧ m' ((c.tc : Thread Cert.MlpReferenceIdeal.nD Cert.MlpReferenceIdeal.τ).loc Cert.MlpReferenceIdeal.main_arg15) = m ((c.tc : Thread Cert.MlpKernelIdeal.nD Cert.MlpKernelIdeal.τ).loc Cert.MlpKernelIdeal.main_arg15)
      ∧ m' ((c.tc : Thread Cert.MlpReferenceIdeal.nD Cert.MlpReferenceIdeal.τ).loc Cert.MlpReferenceIdeal.main_arg16) = m ((c.tc : Thread Cert.MlpKernelIdeal.nD Cert.MlpKernelIdeal.τ).loc Cert.MlpKernelIdeal.main_arg16)
      ∧ m' ((c.tc : Thread Cert.MlpReferenceIdeal.nD Cert.MlpReferenceIdeal.τ).loc Cert.MlpReferenceIdeal.main_arg17) = m ((c.tc : Thread Cert.MlpKernelIdeal.nD Cert.MlpKernelIdeal.τ).loc Cert.MlpKernelIdeal.main_arg17)
      ∧ m' ((c.tc : Thread Cert.MlpReferenceIdeal.nD Cert.MlpReferenceIdeal.τ).loc Cert.MlpReferenceIdeal.main_arg18) = m ((c.tc : Thread Cert.MlpKernelIdeal.nD Cert.MlpKernelIdeal.τ).loc Cert.MlpKernelIdeal.main_arg18)) →
    ∃ (v0 : (c : Dev Cert.MlpKernelIdeal.nD) → Buf (Elt Ideal) ((c.tc : Thread Cert.MlpKernelIdeal.nD Cert.MlpKernelIdeal.τ).loc Cert.MlpKernelIdeal.main_v6)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v6) = v0 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
          ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
          ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
          ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7)
          ∧ r.2.mem ((c.tc : Thread Cert.MlpKernelIdeal.nD Cert.MlpKernelIdeal.τ).loc Cert.MlpKernelIdeal.main_arg8) = m ((c.tc : Thread Cert.MlpKernelIdeal.nD Cert.MlpKernelIdeal.τ).loc Cert.MlpKernelIdeal.main_arg8)
          ∧ r.2.mem ((c.tc : Thread Cert.MlpKernelIdeal.nD Cert.MlpKernelIdeal.τ).loc Cert.MlpKernelIdeal.main_arg9) = m ((c.tc : Thread Cert.MlpKernelIdeal.nD Cert.MlpKernelIdeal.τ).loc Cert.MlpKernelIdeal.main_arg9)
          ∧ r.2.mem ((c.tc : Thread Cert.MlpKernelIdeal.nD Cert.MlpKernelIdeal.τ).loc Cert.MlpKernelIdeal.main_arg10) = m ((c.tc : Thread Cert.MlpKernelIdeal.nD Cert.MlpKernelIdeal.τ).loc Cert.MlpKernelIdeal.main_arg10)
          ∧ r.2.mem ((c.tc : Thread Cert.MlpKernelIdeal.nD Cert.MlpKernelIdeal.τ).loc Cert.MlpKernelIdeal.main_arg11) = m ((c.tc : Thread Cert.MlpKernelIdeal.nD Cert.MlpKernelIdeal.τ).loc Cert.MlpKernelIdeal.main_arg11)
          ∧ r.2.mem ((c.tc : Thread Cert.MlpKernelIdeal.nD Cert.MlpKernelIdeal.τ).loc Cert.MlpKernelIdeal.main_arg12) = m ((c.tc : Thread Cert.MlpKernelIdeal.nD Cert.MlpKernelIdeal.τ).loc Cert.MlpKernelIdeal.main_arg12)
          ∧ r.2.mem ((c.tc : Thread Cert.MlpKernelIdeal.nD Cert.MlpKernelIdeal.τ).loc Cert.MlpKernelIdeal.main_arg13) = m ((c.tc : Thread Cert.MlpKernelIdeal.nD Cert.MlpKernelIdeal.τ).loc Cert.MlpKernelIdeal.main_arg13)
          ∧ r.2.mem ((c.tc : Thread Cert.MlpKernelIdeal.nD Cert.MlpKernelIdeal.τ).loc Cert.MlpKernelIdeal.main_arg14) = m ((c.tc : Thread Cert.MlpKernelIdeal.nD Cert.MlpKernelIdeal.τ).loc Cert.MlpKernelIdeal.main_arg14)
          ∧ r.2.mem ((c.tc : Thread Cert.MlpKernelIdeal.nD Cert.MlpKernelIdeal.τ).loc Cert.MlpKernelIdeal.main_arg15) = m ((c.tc : Thread Cert.MlpKernelIdeal.nD Cert.MlpKernelIdeal.τ).loc Cert.MlpKernelIdeal.main_arg15)
          ∧ r.2.mem ((c.tc : Thread Cert.MlpKernelIdeal.nD Cert.MlpKernelIdeal.τ).loc Cert.MlpKernelIdeal.main_arg16) = m ((c.tc : Thread Cert.MlpKernelIdeal.nD Cert.MlpKernelIdeal.τ).loc Cert.MlpKernelIdeal.main_arg16)
          ∧ r.2.mem ((c.tc : Thread Cert.MlpKernelIdeal.nD Cert.MlpKernelIdeal.τ).loc Cert.MlpKernelIdeal.main_arg17) = m ((c.tc : Thread Cert.MlpKernelIdeal.nD Cert.MlpKernelIdeal.τ).loc Cert.MlpKernelIdeal.main_arg17)
          ∧ r.2.mem ((c.tc : Thread Cert.MlpKernelIdeal.nD Cert.MlpKernelIdeal.τ).loc Cert.MlpKernelIdeal.main_arg18) = m ((c.tc : Thread Cert.MlpKernelIdeal.nD Cert.MlpKernelIdeal.τ).loc Cert.MlpKernelIdeal.main_arg18))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v52) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9)
          ∧ r.2.mem ((c.tc : Thread Cert.MlpReferenceIdeal.nD Cert.MlpReferenceIdeal.τ).loc Cert.MlpReferenceIdeal.main_arg10) = m' ((c.tc : Thread Cert.MlpReferenceIdeal.nD Cert.MlpReferenceIdeal.τ).loc Cert.MlpReferenceIdeal.main_arg10)
          ∧ r.2.mem ((c.tc : Thread Cert.MlpReferenceIdeal.nD Cert.MlpReferenceIdeal.τ).loc Cert.MlpReferenceIdeal.main_arg11) = m' ((c.tc : Thread Cert.MlpReferenceIdeal.nD Cert.MlpReferenceIdeal.τ).loc Cert.MlpReferenceIdeal.main_arg11)
          ∧ r.2.mem ((c.tc : Thread Cert.MlpReferenceIdeal.nD Cert.MlpReferenceIdeal.τ).loc Cert.MlpReferenceIdeal.main_arg12) = m' ((c.tc : Thread Cert.MlpReferenceIdeal.nD Cert.MlpReferenceIdeal.τ).loc Cert.MlpReferenceIdeal.main_arg12)
          ∧ r.2.mem ((c.tc : Thread Cert.MlpReferenceIdeal.nD Cert.MlpReferenceIdeal.τ).loc Cert.MlpReferenceIdeal.main_arg13) = m' ((c.tc : Thread Cert.MlpReferenceIdeal.nD Cert.MlpReferenceIdeal.τ).loc Cert.MlpReferenceIdeal.main_arg13)
          ∧ r.2.mem ((c.tc : Thread Cert.MlpReferenceIdeal.nD Cert.MlpReferenceIdeal.τ).loc Cert.MlpReferenceIdeal.main_arg14) = m' ((c.tc : Thread Cert.MlpReferenceIdeal.nD Cert.MlpReferenceIdeal.τ).loc Cert.MlpReferenceIdeal.main_arg14)
          ∧ r.2.mem ((c.tc : Thread Cert.MlpReferenceIdeal.nD Cert.MlpReferenceIdeal.τ).loc Cert.MlpReferenceIdeal.main_arg15) = m' ((c.tc : Thread Cert.MlpReferenceIdeal.nD Cert.MlpReferenceIdeal.τ).loc Cert.MlpReferenceIdeal.main_arg15)
          ∧ r.2.mem ((c.tc : Thread Cert.MlpReferenceIdeal.nD Cert.MlpReferenceIdeal.τ).loc Cert.MlpReferenceIdeal.main_arg16) = m' ((c.tc : Thread Cert.MlpReferenceIdeal.nD Cert.MlpReferenceIdeal.τ).loc Cert.MlpReferenceIdeal.main_arg16)
          ∧ r.2.mem ((c.tc : Thread Cert.MlpReferenceIdeal.nD Cert.MlpReferenceIdeal.τ).loc Cert.MlpReferenceIdeal.main_arg17) = m' ((c.tc : Thread Cert.MlpReferenceIdeal.nD Cert.MlpReferenceIdeal.τ).loc Cert.MlpReferenceIdeal.main_arg17)
          ∧ r.2.mem ((c.tc : Thread Cert.MlpReferenceIdeal.nD Cert.MlpReferenceIdeal.τ).loc Cert.MlpReferenceIdeal.main_arg18) = m' ((c.tc : Thread Cert.MlpReferenceIdeal.nD Cert.MlpReferenceIdeal.τ).loc Cert.MlpReferenceIdeal.main_arg18))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)) →
    ∃ (v0 : (c : Dev Cert.InKernelIdeal.nD) → Buf (Elt Ideal) ((c.tc : Thread Cert.InKernelIdeal.nD Cert.InKernelIdeal.τ).loc Cert.InKernelIdeal.main_v74_5)) (v1 : (c : Dev Cert.InKernelIdeal.nD) → Buf (Elt Ideal) ((c.tc : Thread Cert.InKernelIdeal.nD Cert.InKernelIdeal.τ).loc Cert.InKernelIdeal.main_v74_6)) (v2 : (c : Dev Cert.InKernelIdeal.nD) → Buf (Elt Ideal) ((c.tc : Thread Cert.InKernelIdeal.nD Cert.InKernelIdeal.τ).loc Cert.InKernelIdeal.main_v74_7)) (v3 : (c : Dev Cert.InKernelIdeal.nD) → Buf (Elt Ideal) ((c.tc : Thread Cert.InKernelIdeal.nD Cert.InKernelIdeal.τ).loc Cert.InKernelIdeal.main_v74_8)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v74_5) = v0 c
          ∧ r.2.mem ((c.tc : Thread Cert.InKernelIdeal.nD Cert.InKernelIdeal.τ).loc Cert.InKernelIdeal.main_v74_6) = v1 c
          ∧ r.2.mem ((c.tc : Thread Cert.InKernelIdeal.nD Cert.InKernelIdeal.τ).loc Cert.InKernelIdeal.main_v74_7) = v2 c
          ∧ r.2.mem ((c.tc : Thread Cert.InKernelIdeal.nD Cert.InKernelIdeal.τ).loc Cert.InKernelIdeal.main_v74_8) = v3 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v27) = v0 c
          ∧ r.2.mem ((c.tc : Thread Cert.InReferenceIdeal.nD Cert.InReferenceIdeal.τ).loc Cert.InReferenceIdeal.main_v24) = v1 c
          ∧ r.2.mem ((c.tc : Thread Cert.InReferenceIdeal.nD Cert.InReferenceIdeal.τ).loc Cert.InReferenceIdeal.main_v34) = v2 c
          ∧ r.2.mem ((c.tc : Thread Cert.InReferenceIdeal.nD Cert.InReferenceIdeal.τ).loc Cert.InReferenceIdeal.main_v41) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7))

def Claim : Prop :=
  ∃ (hMlpKernel : Cert.MlpKernel.Facts) (hMlpKernelIdeal : Cert.MlpKernelIdeal.Facts) (hMlpReferenceIdeal : Cert.MlpReferenceIdeal.Facts) (hInKernel : Cert.InKernel.Facts) (hInKernelIdeal : Cert.InKernelIdeal.Facts) (hInReferenceIdeal : Cert.InReferenceIdeal.Facts) (hPre_lse_finite : Cert.Pre_lse_finite.Facts),
    quiescent_MlpKernel (hMlpKernel := hMlpKernel)
    ∧ quiescent_MlpKernelIdeal (hMlpKernelIdeal := hMlpKernelIdeal)
    ∧ quiescent_MlpKernelIdeal_pre_lse_finite (hMlpKernelIdeal := hMlpKernelIdeal) (hPre_lse_finite := hPre_lse_finite)
    ∧ quiescent_MlpReferenceIdeal (hMlpReferenceIdeal := hMlpReferenceIdeal)
    ∧ quiescent_MlpReferenceIdeal_pre_lse_finite (hMlpReferenceIdeal := hMlpReferenceIdeal) (hPre_lse_finite := hPre_lse_finite)
    ∧ quiescent_InKernel (hInKernel := hInKernel)
    ∧ quiescent_InKernelIdeal (hInKernelIdeal := hInKernelIdeal)
    ∧ quiescent_InReferenceIdeal (hInReferenceIdeal := hInReferenceIdeal)
    ∧ preserves_MlpKernel_MlpKernelIdeal
    ∧ algebraic_MlpKernelIdeal_MlpReferenceIdeal_pre_lse_finite (hMlpKernelIdeal := hMlpKernelIdeal) (hMlpReferenceIdeal := hMlpReferenceIdeal) (hPre_lse_finite := hPre_lse_finite)
    ∧ preserves_InKernel_InKernelIdeal
    ∧ algebraic_InKernelIdeal_InReferenceIdeal (hInKernelIdeal := hInKernelIdeal) (hInReferenceIdeal := hInReferenceIdeal)
-- ==== Pre_lse_finite.lean ====
abbrev S4x4096x1024 : Shape := ⟨3, ![4, 4096, 1024]⟩
abbrev S4x1024x768 : Shape := ⟨3, ![4, 1024, 768]⟩
abbrev S4x4096x256 : Shape := ⟨3, ![4, 4096, 256]⟩
abbrev S768x1024 : Shape := ⟨2, ![768, 1024]⟩
abbrev S256x1024 : Shape := ⟨2, ![256, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel

variable [Facts]

def fn_part1 {F : FTy → Type} [FloatOps F] (main_arg10 : FVec F S4x4096x256 .f32) (main_v12 : IVec S_ 1) (main_v14 : IVec S4x4096x256 1) (main_v15 : FVec F S4x4096x256 .f32) : IVec S_ 1 :=
  let main_v16 : IVec S4x4096x256 1 := cmpf .olt main_arg10 main_v15
  let main_v17 : IVec S4x4096x256 1 := andi main_v14 main_v16
  let main_c_6 : IVec S_ 1 := constantI S_ 1 1#1
  let main_v18 : IVec S_ 1 := (fun x v => Host.reduce IntOp.andi x v reducesTo_S4x4096x256_S_d0_1_2 h_S_) main_v17 main_c_6
  let main_v19 : IVec S_ 1 := andi main_v12 main_v18
  main_v19

def fn {F : FTy → Type} [FloatOps F] (main_arg0 : FVec F S4x4096x1024 .f32) (main_arg1 : FVec F S4x1024x768 .bf16) (main_arg2 : FVec F S4x1024x768 .bf16) (main_arg3 : FVec F S4x1024x768 .bf16) (main_arg4 : FVec F S4x1024x768 .bf16) (main_arg5 : FVec F S4x4096x256 .f32) (main_arg6 : FVec F S4x4096x256 .f32) (main_arg7 : FVec F S4x4096x256 .f32) (main_arg8 : FVec F S4x4096x256 .f32) (main_arg9 : FVec F S4x4096x256 .f32) (main_arg10 : FVec F S4x4096x256 .f32) (main_arg11 : FVec F S4x4096x1024 .bf16) (main_arg12 : FVec F S4x4096x1024 .bf16) (main_arg13 : FVec F S768x1024 .f32) (main_arg14 : FVec F S256x1024 .f32) (main_arg15 : FVec F S1024x1024 .f32) (main_arg16 : FVec F S1024 .f32) (main_arg17 : FVec F S1024x4096 .f32) (main_arg18 : FVec F S4096x1024 .f32) : IVec S_ 1 :=
  let main_cst : FVec F S_ .f32 := constant S_ .f32 0xFF800000#32
  let main_v0 : FVec F S4x4096x256 .f32 := broadcastInDim S4x4096x256 ![] bcast_S_S4x4096x256 main_cst
  let main_v1 : IVec S4x4096x256 1 := cmpf .ogt main_arg8 main_v0
  let main_cst_0 : FVec F S_ .f32 := constant S_ .f32 0x7F800000#32
  let main_v2 : FVec F S4x4096x256 .f32 := broadcastInDim S4x4096x256 ![] bcast_S_S4x4096x256 main_cst_0
  let main_v3 : IVec S4x4096x256 1 := cmpf .olt main_arg8 main_v2
  let main_v4 : IVec S4x4096x256 1 := andi main_v1 main_v3
  let main_c : IVec S_ 1 := constantI S_ 1 1#1
  let main_v5 : IVec S_ 1 := (fun x v => Host.reduce IntOp.andi x v reducesTo_S4x4096x256_S_d0_1_2 h_S_) main_v4 main_c
  let main_cst_1 : FVec F S_ .f32 := constant S_ .f32 0xFF800000#32
  let main_v6 : FVec F S4x4096x256 .f32 := broadcastInDim S4x4096x256 ![] bcast_S_S4x4096x256 main_cst_1
  let main_v7 : IVec S4x4096x256 1 := cmpf .ogt main_arg9 main_v6
  let main_cst_2 : FVec F S_ .f32 := constant S_ .f32 0x7F800000#32
  let main_v8 : FVec F S4x4096x256 .f32 := broadcastInDim S4x4096x256 ![] bcast_S_S4x4096x256 main_cst_2
  let main_v9 : IVec S4x4096x256 1 := cmpf .olt main_arg9 main_v8
  let main_v10 : IVec S4x4096x256 1 := andi main_v7 main_v9
  let main_c_3 : IVec S_ 1 := constantI S_ 1 1#1
  let main_v11 : IVec S_ 1 := (fun x v => Host.reduce IntOp.andi x v reducesTo_S4x4096x256_S_d0_1_2 h_S_) main_v10 main_c_3
  let main_v12 : IVec S_ 1 := andi main_v5 main_v11
  let main_cst_4 : FVec F S_ .f32 := constant S_ .f32 0xFF800000#32
  let main_v13 : FVec F S4x4096x256 .f32 := broadcastInDim S4x4096x256 ![] bcast_S_S4x4096x256 main_cst_4
  let main_v14 : IVec S4x4096x256 1 := cmpf .ogt main_arg10 main_v13
  let main_cst_5 : FVec F S_ .f32 := constant S_ .f32 0x7F800000#32
  let main_v15 : FVec F S4x4096x256 .f32 := broadcastInDim S4x4096x256 ![] bcast_S_S4x4096x256 main_cst_5
  fn_part1 (F := F) main_arg10 main_v12 main_v14 main_v15
-- ==== MlpKernel.lean ====
abbrev S4x4096x1024 : Shape := ⟨3, ![4, 4096, 1024]⟩
abbrev S4x1024x768 : Shape := ⟨3, ![4, 1024, 768]⟩
abbrev S4x4096x256 : Shape := ⟨3, ![4, 4096, 256]⟩
abbrev S768x1024 : Shape := ⟨2, ![768, 1024]⟩
abbrev S256x1024 : Shape := ⟨2, ![256, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x512x768 : Shape := ⟨3, ![1, 512, 768]⟩
abbrev S1x512x256 : Shape := ⟨3, ![1, 512, 256]⟩
abbrev S512x768 : Shape := ⟨2, ![512, 768]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 26
  | .vmem => 34
  | .smem => 0
  | _ => 0

abbrev bufTy : (tb : Table) → Fin (tcTables nBuf tb) → BufTy
  | .hbm, ⟨0, _⟩ => ⟨S4x4096x1024, .f32⟩
  | .hbm, ⟨1, _⟩ => ⟨S4x1024x768, .bf16⟩
  | .hbm, ⟨2, _⟩ => ⟨S4x1024x768, .bf16⟩
  | .hbm, ⟨3, _⟩ => ⟨S4x1024x768, .bf16⟩
  | .hbm, ⟨4, _⟩ => ⟨S4x1024x768, .bf16⟩
  | .hbm, ⟨5, _⟩ => ⟨S4x4096x256, .f32⟩
  | .hbm, ⟨6, _⟩ => ⟨S4x4096x256, .f32⟩
  | .hbm, ⟨7, _⟩ => ⟨S4x4096x256, .f32⟩
  | .hbm, ⟨8, _⟩ => ⟨S4x4096x256, .f32⟩
  | .hbm, ⟨9, _⟩ => ⟨S4x4096x256, .f32⟩
  | .hbm, ⟨10, _⟩ => ⟨S4x4096x256, .f32⟩
  | .hbm, ⟨11, _⟩ => ⟨S4x4096x1024, .bf16⟩
  | .hbm, ⟨12, _⟩ => ⟨S4x4096x1024, .bf16⟩
  | .hbm, ⟨13, _⟩ => ⟨S768x1024, .f32⟩
  | .hbm, ⟨14, _⟩ => ⟨S256x1024, .f32⟩
  | .hbm, ⟨15, _⟩ => ⟨S1024x1024, .f32⟩
  | .hbm, ⟨16, _⟩ => ⟨S1024, .f32⟩
  | .hbm, ⟨17, _⟩ => ⟨S1024x4096, .f32⟩
  | .hbm, ⟨18, _⟩ => ⟨S4096x1024, .f32⟩
  | .hbm, ⟨19, _⟩ => ⟨S768x1024, .bf16⟩
  | .hbm, ⟨20, _⟩ => ⟨S256x1024, .bf16⟩
  | .hbm, ⟨21, _⟩ => ⟨S1024x1024, .bf16⟩
  | .hbm, ⟨22, _⟩ => ⟨S1x1024, .f32⟩
  | .hbm, ⟨23, _⟩ => ⟨S1024x4096, .bf16⟩
  | .hbm, ⟨24, _⟩ => ⟨S4096x1024, .bf16⟩
  | .hbm, ⟨25, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .bf16⟩
  | .local _ .vmem, ⟨3, _⟩ => ⟨S1x512x768, .bf16⟩
  | .local _ .vmem, ⟨4, _⟩ => ⟨S1x512x768, .bf16⟩
  | .local _ .vmem, ⟨5, _⟩ => ⟨S1x512x768, .bf16⟩
  | .local _ .vmem, ⟨6, _⟩ => ⟨S1x512x768, .bf16⟩
  | .local _ .vmem, ⟨7, _⟩ => ⟨S1x512x768, .bf16⟩
  | .local _ .vmem, ⟨8, _⟩ => ⟨S1x512x768, .bf16⟩
  | .local _ .vmem, ⟨9, _⟩ => ⟨S1x512x768, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S768x1024, .bf16⟩
  | .local _ .vmem, ⟨27, _⟩ => ⟨S256x1024, .bf16⟩
  | .local _ .vmem, ⟨28, _⟩ => ⟨S1024x1024, .bf16⟩
  | .local _ .vmem, ⟨29, _⟩ => ⟨S1x1024, .f32⟩
  | .local _ .vmem, ⟨30, _⟩ => ⟨S1024x4096, .bf16⟩
  | .local _ .vmem, ⟨31, _⟩ => ⟨S4096x1024, .bf16⟩
  | .local _ .vmem, ⟨32, _⟩ => ⟨S1x512x1024, .f32⟩
  | .local _ .vmem, ⟨33, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![arg0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S768x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x4096 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S4096x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MlpReferenceIdeal.lean ====
abbrev S4x4096x1024 : Shape := ⟨3, ![4, 4096, 1024]⟩
abbrev S4x1024x768 : Shape := ⟨3, ![4, 1024, 768]⟩
abbrev S4x4096x256 : Shape := ⟨3, ![4, 4096, 256]⟩
abbrev S768x1024 : Shape := ⟨2, ![768, 1024]⟩
abbrev S256x1024 : Shape := ⟨2, ![256, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x4096x768 : Shape := ⟨3, ![4, 4096, 768]⟩
abbrev S1x4x4096x256 : Shape := ⟨4, ![1, 4, 4096, 256]⟩
abbrev S3x4x4096x256 : Shape := ⟨4, ![3, 4, 4096, 256]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 82
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024x768, .bf16⟩
  | .hbm, ⟨2, _⟩ => ⟨S4x1024x768, .bf16⟩
  | .hbm, ⟨3, _⟩ => ⟨S4x1024x768, .bf16⟩
  | .hbm, ⟨4, _⟩ => ⟨S4x1024x768, .bf16⟩
  | .hbm, ⟨5, _⟩ => ⟨S4x4096x256, .f32⟩
  | .hbm, ⟨6, _⟩ => ⟨S4x4096x256, .f32⟩
  | .hbm, ⟨7, _⟩ => ⟨S4x4096x256, .f32⟩
  | .hbm, ⟨8, _⟩ => ⟨S4x4096x256, .f32⟩
  | .hbm, ⟨9, _⟩ => ⟨S4x4096x256, .f32⟩
  | .hbm, ⟨10, _⟩ => ⟨S4x4096x256, .f32⟩
  | .hbm, ⟨11, _⟩ => ⟨S4x4096x1024, .bf16⟩
  | .hbm, ⟨12, _⟩ => ⟨S4x4096x1024, .bf16⟩
  | .hbm, ⟨13, _⟩ => ⟨S768x1024, .f32⟩
  | .hbm, ⟨14, _⟩ => ⟨S256x1024, .f32⟩
  | .hbm, ⟨15, _⟩ => ⟨S1024x1024, .f32⟩
  | .hbm, ⟨16, _⟩ => ⟨S1024, .f32⟩
  | .hbm, ⟨17, _⟩ => ⟨S1024x4096, .f32⟩
  | .hbm, ⟨18, _⟩ => ⟨S4096x1024, .f32⟩
  | .hbm, ⟨19, _⟩ => ⟨S4x4096x768, .bf16⟩
  | .hbm, ⟨20, _⟩ => ⟨S4x4096x768, .f32⟩
  | .hbm, ⟨21, _⟩ => ⟨S1x4x4096x256, .f32⟩
  | .hbm, ⟨22, _⟩ => ⟨S1x4x4096x256, .f32⟩
  | .hbm, ⟨23, _⟩ => ⟨S1x4x4096x256, .f32⟩
  | .hbm, ⟨24, _⟩ => ⟨S3x4x4096x256, .f32⟩
  | .hbm, ⟨25, _⟩ => ⟨S_, .f32⟩
  | .hbm, ⟨26, _⟩ => ⟨S_, .f32⟩
  | .hbm, ⟨27, _⟩ => ⟨S3x4x4096x256, .f32⟩
  | .hbm, ⟨28, _⟩ => ⟨S3x4x4096x256, .f32⟩
  | .hbm, ⟨29, _⟩ => ⟨S_, .f32⟩
  | .hbm, ⟨30, _⟩ => ⟨S4x4096x256, .f32⟩
  | .hbm, ⟨31, _⟩ => ⟨S_, .f32⟩
  | .hbm, ⟨32, _⟩ => ⟨S4x4096x256, .f32⟩
  | .hbm, ⟨33, _⟩ => ⟨S4x4096x256, .f32⟩
  | .hbm, ⟨34, _⟩ => ⟨S1x4x4096x256, .f32⟩
  | .hbm, ⟨35, _⟩ => ⟨S3x4x4096x256, .f32⟩
  | .hbm, ⟨36, _⟩ => ⟨S3x4x4096x256, .f32⟩
  | .hbm, ⟨37, _⟩ => ⟨S3x4x4096x256, .f32⟩
  | .hbm, ⟨38, _⟩ => ⟨S_, .f32⟩
  | .hbm, ⟨39, _⟩ => ⟨S4x4096x256, .f32⟩
  | .hbm, ⟨40, _⟩ => ⟨S1x4x4096x256, .f32⟩
  | .hbm, ⟨41, _⟩ => ⟨S3x4x4096x256, .f32⟩
  | .hbm, ⟨42, _⟩ => ⟨S3x4x4096x256, .f32⟩
  | .hbm, ⟨43, _⟩ => ⟨S1x4x4096x256, .f32⟩
  | .hbm, ⟨44, _⟩ => ⟨S1x4x4096x256, .f32⟩
  | .hbm, ⟨45, _⟩ => ⟨S1x4x4096x256, .f32⟩
  | .hbm, ⟨46, _⟩ => ⟨S3x4x4096x256, .f32⟩
  | .hbm, ⟨47, _⟩ => ⟨S3x4x4096x256, .f32⟩
  | .hbm, ⟨48, _⟩ => ⟨S_, .f32⟩
  | .hbm, ⟨49, _⟩ => ⟨S4x4096x256, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S4x4096x1, .f32⟩
  | .hbm, ⟨70, _⟩ => ⟨S4x4096x1024, .f32⟩
  | .hbm, ⟨71, _⟩ => ⟨S4x4096x1024, .f32⟩
  | .hbm, ⟨72, _⟩ => ⟨S1x1x1024, .f32⟩
  | .hbm, ⟨73, _⟩ => ⟨S4x4096x1024, .f32⟩
  | .hbm, ⟨74, _⟩ => ⟨S4x4096x1024, .f32⟩
  | .hbm, ⟨75, _⟩ => ⟨S4x4096x4096, .f32⟩
  | .hbm, ⟨76, _⟩ => ⟨S_, .f32⟩
  | .hbm, ⟨77, _⟩ => ⟨S4x4096x4096, .f32⟩
  | .hbm, ⟨78, _⟩ => ⟨S4x4096x4096, .f32⟩
  | .hbm, ⟨79, _⟩ => ⟨S4x4096x4096, .f32⟩
  | .hbm, ⟨80, _⟩ => ⟨S4x4096x1024, .f32⟩
  | .hbm, ⟨81, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call0_cst : Ref sig .tc := ⟨.hbm, 76, rfl⟩
abbrev main_call0_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== InKernel.lean ====
abbrev S4x4096x1024 : Shape := ⟨3, ![4, 4096, 1024]⟩
abbrev S1024 : Shape := ⟨1, ![1024]⟩
abbrev S1024x6308 : Shape := ⟨2, ![1024, 6308]⟩
abbrev S64 : Shape := ⟨1, ![64]⟩
abbrev S1024x768 : Shape := ⟨2, ![1024, 768]⟩
abbrev S1024x192 : Shape := ⟨2, ![1024, 192]⟩
abbrev S1024x36 : Shape := ⟨2, ![1024, 36]⟩
abbrev S1024x1024 : Shape := ⟨2, ![1024, 1024]⟩
abbrev S1024x12 : Shape := ⟨2, ![1024, 12]⟩
abbrev S_ : Shape := ⟨0, ![]⟩
abbrev S1024x128 : Shape := ⟨2, ![1024, 128]⟩
abbrev S1024x384 : Shape := ⟨2, ![1024, 384]⟩
abbrev S1024x6656 : Shape := ⟨2, ![1024, 6656]⟩
abbrev S1x64 : Shape := ⟨2, ![1, 64]⟩
abbrev S12x64 : Shape := ⟨2, ![12, 64]⟩
abbrev S768 : Shape := ⟨1, ![768]⟩
abbrev S3x64 : Shape := ⟨2, ![3, 64]⟩
abbrev S192 : Shape := ⟨1, ![192]⟩
abbrev S2688 : Shape := ⟨1, ![2688]⟩
abbrev S1x2688 : Shape := ⟨2, ![1, 2688]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x1024 : Shape := ⟨2, ![1, 1024]⟩
abbrev S4x12x4096x64 : Shape := ⟨4, ![4, 12, 4096, 64]⟩
abbrev S4x3x4096x64 : Shape := ⟨4, ![4, 3, 4096, 64]⟩
abbrev S4x4096x768 : Shape := ⟨3, ![4, 4096, 768]⟩
abbrev S4x4096x384 : Shape := ⟨3, ![4, 4096, 384]⟩
abbrev S4x3x80x4096 : Shape := ⟨4, ![4, 3, 80, 4096]⟩
abbrev S1x512x1024 : Shape := ⟨3, ![1, 512, 1024]⟩
abbrev S512x128 : Shape := ⟨2, ![512, 128]⟩
abbrev S1x12x512x64 : Shape := ⟨4, ![1, 12, 512, 64]⟩
abbrev S1x3x512x64 : Shape := ⟨4, ![1, 3, 512, 64]⟩
abbrev S1x512x768 : Shape := ⟨3, ![1, 512, 768]⟩
abbrev S1x512x384 : Shape := ⟨3, ![1, 512, 384]⟩
abbrev S1x3x80x512 : Shape := ⟨4, ![1, 3, 80, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x64 : Shape := ⟨2, ![512, 64]⟩
abbrev S1x1x512x64 : Shape := ⟨4, ![1, 1, 512, 64]⟩
abbrev S1x512x128 : Shape := ⟨3, ![1, 512, 128]⟩
abbrev S128x128 : Shape := ⟨2, ![128, 128]⟩
abbrev S1x128 : Shape := ⟨2, ![1, 128]⟩
abbrev S384x1024 : Shape := ⟨2, ![384, 1024]⟩
abbrev S384x512 : Shape := ⟨2, ![384, 512]⟩
abbrev S16x512 : Shape := ⟨2, ![16, 512]⟩
abbrev S64x512 : Shape := ⟨2, ![64, 512]⟩
abbrev S1x1x64x512 : Shape := ⟨4, ![1, 1, 64, 512]⟩
abbrev S1x1x16x512 : Shape := ⟨4, ![1, 1, 16, 512]⟩

abbrev nBuf : Space → Nat
  | .hbm => 125
  | .vmem => 34
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6308, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1024x6308, .bf16⟩
  | .hbm, ⟨9, _⟩ => ⟨S1024x768, .bf16⟩
  | .hbm, ⟨10, _⟩ => ⟨S1024x192, .bf16⟩
  | .hbm, ⟨11, _⟩ => ⟨S1024x192, .bf16⟩
  | .hbm, ⟨12, _⟩ => ⟨S1024x192, .bf16⟩
  | .hbm, ⟨13, _⟩ => ⟨S1024x192, .bf16⟩
  | .hbm, ⟨14, _⟩ => ⟨S1024x192, .bf16⟩
  | .hbm, ⟨15, _⟩ => ⟨S1024x192, .bf16⟩
  | .hbm, ⟨16, _⟩ => ⟨S1024x36, .bf16⟩
  | .hbm, ⟨17, _⟩ => ⟨S1024x768, .bf16⟩
  | .hbm, ⟨18, _⟩ => ⟨S1024x768, .bf16⟩
  | .hbm, ⟨19, _⟩ => ⟨S1024x768, .bf16⟩
  | .hbm, ⟨20, _⟩ => ⟨S1024x1024, .bf16⟩
  | .hbm, ⟨21, _⟩ => ⟨S1024x1024, .bf16⟩
  | .hbm, ⟨22, _⟩ => ⟨S1024x12, .bf16⟩
  | .hbm, ⟨23, _⟩ => ⟨S_, .i32⟩
  | .hbm, ⟨24, _⟩ => ⟨S_, .bf16⟩
  | .hbm, ⟨25, _⟩ => ⟨S1024x128, .bf16⟩
  | .hbm, ⟨26, _⟩ => ⟨S1024x12, .bf16⟩
  | .hbm, ⟨27, _⟩ => ⟨S_, .i32⟩
  | .hbm, ⟨28, _⟩ => ⟨S_, .bf16⟩
  | .hbm, ⟨29, _⟩ => ⟨S1024x128, .bf16⟩
  | .hbm, ⟨30, _⟩ => ⟨S1024x12, .bf16⟩
  | .hbm, ⟨31, _⟩ => ⟨S_, .i32⟩
  | .hbm, ⟨32, _⟩ => ⟨S_, .bf16⟩
  | .hbm, ⟨33, _⟩ => ⟨S1024x128, .bf16⟩
  | .hbm, ⟨34, _⟩ => ⟨S1024x384, .bf16⟩
  | .hbm, ⟨35, _⟩ => ⟨S1024x384, .bf16⟩
  | .hbm, ⟨36, _⟩ => ⟨S1024x6656, .bf16⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S1x64, .f32⟩
  | .hbm, ⟨41, _⟩ => ⟨S12x64, .f32⟩
  | .hbm, ⟨42, _⟩ => ⟨S768, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S1x64, .f32⟩
  | .hbm, ⟨47, _⟩ => ⟨S12x64, .f32⟩
  | .hbm, ⟨48, _⟩ => ⟨S768, .f32⟩
  | .hbm, ⟨49, _⟩ => ⟨S1x64, .f32⟩
  | .hbm, ⟨50, _⟩ => ⟨S12x64, .f32⟩
  | .hbm, ⟨51, _⟩ => ⟨S768, .f32⟩
  | .hbm, ⟨52, _⟩ => ⟨S1x64, .f32⟩
  | .hbm, ⟨53, _⟩ => ⟨S3x64, .f32⟩
  | .hbm, ⟨54, _⟩ => ⟨S192, .f32⟩
  | .hbm, ⟨55, _⟩ => ⟨S1x64, .f32⟩
  | .hbm, ⟨56, _⟩ => ⟨S3x64, .f32⟩
  | .hbm, ⟨57, _⟩ => ⟨S192, .f32⟩
  | .hbm, ⟨58, _⟩ => ⟨S2688, .f32⟩
  | .hbm, ⟨59, _⟩ => ⟨S1x2688, .f32⟩
  | .hbm, ⟨60, _⟩ => ⟨S256, .i32⟩
  | .hbm, ⟨61, _⟩ => ⟨S_, .i32⟩
  | .hbm, ⟨62, _⟩ => ⟨S_, .i32⟩
  | .hbm, ⟨63, _⟩ => ⟨S256, .i32⟩
  | .hbm, ⟨64, _⟩ => ⟨S256, .i32⟩
  | .hbm, ⟨65, _⟩ => ⟨S256, .i32⟩
  | .hbm, ⟨66, _⟩ => ⟨S_, .i32⟩
  | .hbm, ⟨67, _⟩ => ⟨S256, .i32⟩
  | .hbm, ⟨68, _⟩ => ⟨S256, .i1⟩
  | .hbm, ⟨69, _⟩ => ⟨S256, .i32⟩
  | .hbm, ⟨70, _⟩ => ⟨S256, .i32⟩
  | .hbm, ⟨71, _⟩ => ⟨S_, .i32⟩
  | .hbm, ⟨72, _⟩ => ⟨S256, .i32⟩
  | .hbm, ⟨73, _⟩ => ⟨S256, .i1⟩
  | .hbm, ⟨74, _⟩ => ⟨S256, .i1⟩
  | .hbm, ⟨75, _⟩ => ⟨S_, .i32⟩
  | .hbm, ⟨76, _⟩ => ⟨S256, .i32⟩
  | .hbm, ⟨77, _⟩ => ⟨S256, .i32⟩
  | .hbm, ⟨78, _⟩ => ⟨S256, .i32⟩
  | .hbm, ⟨79, _⟩ => ⟨S256x1, .i32⟩
  | .hbm, ⟨80, _⟩ => ⟨S1x256, .i32⟩
  | .hbm, ⟨81, _⟩ => ⟨S256x256, .i32⟩
  | .hbm, ⟨82, _⟩ => ⟨S256x256, .i32⟩
  | .hbm, ⟨83, _⟩ => ⟨S256x256, .i1⟩
  | .hbm, ⟨84, _⟩ => ⟨S_, .f32⟩
  | .hbm, ⟨85, _⟩ => ⟨S_, .f32⟩
  | .hbm, ⟨86, _⟩ => ⟨S256x256, .f32⟩
  | .hbm, ⟨87, _⟩ => ⟨S256x256, .f32⟩
  | .hbm, ⟨88, _⟩ => ⟨S256x256, .f32⟩
  | .hbm, ⟨89, _⟩ => ⟨S256x256, .bf16⟩
  | .hbm, ⟨90, _⟩ => ⟨S4096, .i32⟩
  | .hbm, ⟨91, _⟩ => ⟨S32, .f32⟩
  | .hbm, ⟨92, _⟩ => ⟨S32, .f32⟩
  | .hbm, ⟨93, _⟩ => ⟨S_, .f32⟩
  | .hbm, ⟨94, _⟩ => ⟨S32, .f32⟩
  | .hbm, ⟨95, _⟩ => ⟨S32, .f32⟩
  | .hbm, ⟨96, _⟩ => ⟨S_, .f32⟩
  | .hbm, ⟨97, _⟩ => ⟨S32, .f32⟩
  | .hbm, ⟨98, _⟩ => ⟨S32, .f32⟩
  | .hbm, ⟨99, _⟩ => ⟨S4096, .f32⟩
  | .hbm, ⟨100, _⟩ => ⟨S4096x1, .f32⟩
  | .hbm, ⟨101, _⟩ => ⟨S1x32, .f32⟩
  | .hbm, ⟨102, _⟩ => ⟨S4096x32, .f32⟩
  | .hbm, ⟨103, _⟩ => ⟨S4096x32, .f32⟩
  | .hbm, ⟨104, _⟩ => ⟨S4096x32, .f32⟩
  | .hbm, ⟨105, _⟩ => ⟨S4096x32, .f32⟩
  | .hbm, ⟨106, _⟩ => ⟨S4096x32, .f32⟩
  | .hbm, ⟨107, _⟩ => ⟨S4096x128, .f32⟩
  | .hbm, ⟨108, _⟩ => ⟨S4096x32, .f32⟩
  | .hbm, ⟨109, _⟩ => ⟨S4096x32, .f32⟩
  | .hbm, ⟨110, _⟩ => ⟨S4096x32, .f32⟩
  | .hbm, ⟨111, _⟩ => ⟨S4096x128, .f32⟩
  | .hbm, ⟨112, _⟩ => ⟨S1x1024, .f32⟩
  | .hbm, ⟨113, _⟩ => ⟨S4x12x4096x64, .bf16⟩
  | .hbm, ⟨114, _⟩ => ⟨S4x3x4096x64, .bf16⟩
  | .hbm, ⟨115, _⟩ => ⟨S4x3x4096x64, .bf16⟩
  | .hbm, ⟨116, _⟩ => ⟨S4x4096x768, .f32⟩
  | .hbm, ⟨117, _⟩ => ⟨S4x4096x768, .f32⟩
  | .hbm, ⟨118, _⟩ => ⟨S4x4096x384, .f32⟩
  | .hbm, ⟨119, _⟩ => ⟨S4x4096x768, .f32⟩
  | .hbm, ⟨120, _⟩ => ⟨S4x4096x1024, .bf16⟩
  | .hbm, ⟨121, _⟩ => ⟨S4x4096x1024, .bf16⟩
  | .hbm, ⟨122, _⟩ => ⟨S4x4096x384, .f32⟩
  | .hbm, ⟨123, _⟩ => ⟨S4x3x80x4096, .bf16⟩
  | .hbm, ⟨124, _⟩ => ⟨S4x3x80x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x6656, .bf16⟩
  | .local _ .vmem, ⟨4, _⟩ => ⟨S1x2688, .f32⟩
  | .local _ .vmem, ⟨5, _⟩ => ⟨S256x256, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x12x512x64, .bf16⟩
  | .local _ .vmem, ⟨11, _⟩ => ⟨S1x12x512x64, .bf16⟩
  | .local _ .vmem, ⟨12, _⟩ => ⟨S1x3x512x64, .bf16⟩
  | .local _ .vmem, ⟨13, _⟩ => ⟨S1x3x512x64, .bf16⟩
  | .local _ .vmem, ⟨14, _⟩ => ⟨S1x3x512x64, .bf16⟩
  | .local _ .vmem, ⟨15, _⟩ => ⟨S1x3x512x64, .bf16⟩
  | .local _ .vmem, ⟨16, _⟩ => ⟨S1x512x768, .f32⟩
  | .local _ .vmem, ⟨17, _⟩ => ⟨S1x512x768, .f32⟩
  | .local _ .vmem, ⟨18, _⟩ => ⟨S1x512x768, .f32⟩
  | .local _ .vmem, ⟨19, _⟩ => ⟨S1x512x768, .f32⟩
  | .local _ .vmem, ⟨20, _⟩ => ⟨S1x512x384, .f32⟩
  | .local _ .vmem, ⟨21, _⟩ => ⟨S1x512x384, .f32⟩
  | .local _ .vmem, ⟨22, _⟩ => ⟨S1x512x768, .f32⟩
  | .local _ .vmem, ⟨23, _⟩ => ⟨S1x512x768, .f32⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x384, .f32⟩
  | .local _ .vmem, ⟨29, _⟩ => ⟨S1x512x384, .f32⟩
  | .local _ .vmem, ⟨30, _⟩ => ⟨S1x3x80x512, .bf16⟩
  | .local _ .vmem, ⟨31, _⟩ => ⟨S1x3x80x512, .bf16⟩
  | .local _ .vmem, ⟨32, _⟩ => ⟨S1x3x80x512, .bf16⟩
  | .local _ .vmem, ⟨33, _⟩ => ⟨S1x3x80x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_call2_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_3 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_c : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_0 : Ref sig .tc := ⟨.hbm, 75, rfl⟩
abbrev main_call3_v12 : Ref sig .tc := ⟨.hbm, 76, rfl⟩
abbrev main_call3_v13 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_4 : Ref sig .tc := ⟨.hbm, 84, rfl⟩
abbrev main_cst_5 : Ref sig .tc := ⟨.hbm, 85, rfl⟩
abbrev main_call4_v0 : Ref sig .tc := ⟨.hbm, 86, rfl⟩
abbrev main_call4_v1 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_6 : Ref sig .tc := ⟨.hbm, 93, rfl⟩
abbrev main_v56 : Ref sig .tc := ⟨.hbm, 94, rfl⟩
abbrev main_v57 : Ref sig .tc := ⟨.hbm, 95, rfl⟩
abbrev main_cst_7 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74_0 : Ref sig .tc := ⟨.hbm, 113, rfl⟩
abbrev main_v74_1 : Ref sig .tc := ⟨.hbm, 114, rfl⟩
abbrev main_v74_2 : Ref sig .tc := ⟨.hbm, 115, rfl⟩
abbrev main_v74_3 : Ref sig .tc := ⟨.hbm, 116, rfl⟩
abbrev main_v74_4 : Ref sig .tc := ⟨.hbm, 117, rfl⟩
abbrev main_v74_5 : Ref sig .tc := ⟨.hbm, 118, rfl⟩
abbrev main_v74_6 : Ref sig .tc := ⟨.hbm, 119, rfl⟩
abbrev main_v74_7 : Ref sig .tc := ⟨.hbm, 120, rfl⟩
abbrev main_v74_8 : Ref sig .tc := ⟨.hbm, 121, rfl⟩
abbrev main_v74_9 : Ref sig .tc := ⟨.hbm, 122, rfl⟩
abbrev main_v74_10 : Ref sig .tc := ⟨.hbm, 123, rfl⟩
abbrev main_v74_11 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x12x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x3x80x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x3x80x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== InReferenceIdeal.lean ====
abbrev S4x4096x1024 : Shape := ⟨3, ![4, 4096, 1024]⟩
abbrev S1024 : Shape := ⟨1, ![1024]⟩
abbrev S1024x6308 : Shape := ⟨2, ![1024, 6308]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x6308 : Shape := ⟨3, ![4, 4096, 6308]⟩
abbrev S4x4096x768 : Shape := ⟨3, ![4, 4096, 768]⟩
abbrev S4x4096x192 : Shape := ⟨3, ![4, 4096, 192]⟩
abbrev S4x4096x36 : Shape := ⟨3, ![4, 4096, 36]⟩
abbrev S4x4096x384 : Shape := ⟨3, ![4, 4096, 384]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6308, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x4096x6308, .f32⟩
  | .hbm, ⟨25, _⟩ => ⟨S4x4096x768, .f32⟩
  | .hbm, ⟨26, _⟩ => ⟨S4x4096x192, .f32⟩
  | .hbm, ⟨27, _⟩ => ⟨S4x4096x192, .f32⟩
  | .hbm, ⟨28, _⟩ => ⟨S4x4096x192, .f32⟩
  | .hbm, ⟨29, _⟩ => ⟨S4x4096x192, .f32⟩
  | .hbm, ⟨30, _⟩ => ⟨S4x4096x192, .f32⟩
  | .hbm, ⟨31, _⟩ => ⟨S4x4096x192, .f32⟩
  | .hbm, ⟨32, _⟩ => ⟨S4x4096x36, .f32⟩
  | .hbm, ⟨33, _⟩ => ⟨S4x4096x768, .f32⟩
  | .hbm, ⟨34, _⟩ => ⟨S4x4096x768, .f32⟩
  | .hbm, ⟨35, _⟩ => ⟨S4x4096x768, .f32⟩
  | .hbm, ⟨36, _⟩ => ⟨S4x4096x1024, .f32⟩
  | .hbm, ⟨37, _⟩ => ⟨S4x4096x1024, .f32⟩
  | .hbm, ⟨38, _⟩ => ⟨S4x4096x384, .f32⟩
  | .hbm, ⟨39, _⟩ => ⟨S4x4096x1024, .f32⟩
  | .hbm, ⟨40, _⟩ => ⟨S4x4096x1024, .f32⟩
  | .hbm, ⟨41, _⟩ => ⟨S_, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096x1024, .f32⟩
  | .hbm, ⟨46, _⟩ => ⟨S4x4096x1024, .f32⟩
  | .hbm, ⟨47, _⟩ => ⟨S4x4096x1024, .bf16⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096x1024, .f32⟩
  | .hbm, ⟨55, _⟩ => ⟨S4x4096x1024, .f32⟩
  | .hbm, ⟨56, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.MlpSpec.lean ====
module

public import Idealize.ShloMosaic.Lib.Pointwise

@[expose] public section

set_option maxRecDepth 16384

noncomputable section

/-! The mathematics of one row of the call, over the extended reals: the gated mix of the two attention branches,
    the output projection with its residual, the normalization, and the squared-ReLU feed-forward layer. -/

namespace Cert.MlpSpec

open Idealize.ShloMosaic

/-- The two branches projected to the model width and mixed by their gates. -/
def mixed (ya : Fin 768 → EReal) (yb : Fin 256 → EReal) (ga gb : Fin 1024 → EReal)
    (wa : Fin 768 → Fin 1024 → EReal) (wb : Fin 256 → Fin 1024 → EReal) (n : Fin 1024) : EReal :=
  ga n * (∑ k, ya k * wa k n) + gb n * (∑ k, yb k * wb k n)

/-- The residual stream after the output projection. -/
def resid (x a : Fin 1024 → EReal) (w : Fin 1024 → Fin 1024 → EReal) (n : Fin 1024) : EReal :=
  x n + ∑ k, a k * w k n

/-- The root-mean-square normalization with its gain. -/
def normed (x g : Fin 1024 → EReal) (n : Fin 1024) : EReal :=
  x n * Ideal.rsqrt (Ideal.div (∑ k, x k * x k) (Ideal.ofBits .f32 0x44800000#32)
    + Ideal.ofBits .f32 0x358637BD#32) * g n

/-- One hidden unit: the square of the rectified projection. -/
def hid (h : Fin 1024 → EReal) (u : Fin 1024 → EReal) : EReal :=
  max (∑ k, h k * u k) 0 * max (∑ k, h k * u k) 0

/-- The feed-forward layer added to the residual stream. -/
def fed (x h : Fin 1024 → EReal) (wu : Fin 1024 → Fin 4096 → EReal) (wd : Fin 4096 → Fin 1024 → EReal)
    (n : Fin 1024) : EReal :=
  x n + ∑ f, hid h (fun k => wu k f) * wd f n

/-- One output row of the call. -/
def row (x : Fin 1024 → EReal) (ya : Fin 768 → EReal) (yb : Fin 256 → EReal) (ga gb g : Fin 1024 → EReal)
    (wa : Fin 768 → Fin 1024 → EReal) (wb : Fin 256 → Fin 1024 → EReal) (wo : Fin 1024 → Fin 1024 → EReal)
    (wu : Fin 1024 → Fin 4096 → EReal) (wd : Fin 4096 → Fin 1024 → EReal) : Fin 1024 → EReal :=
  let x1 := resid x (mixed ya yb ga gb wa wb) wo
  fed x1 (normed x1 g) wu wd

/-- The three dilated groups' outputs mixed by the shares `2 ^ lᵢ`, as the kernel computes them: shifted by the largest of the
    three, the division last. -/
def shareExp (l0 l1 l2 : EReal) (l : EReal) : EReal := Ideal.exp2 (l - max (max l0 l1) l2)

/-- The kernel's mix of the three groups. -/
def mix3 (l0 l1 l2 o0 o1 o2 : EReal) : EReal :=
  Ideal.div (shareExp l0 l1 l2 l0 * o0 + shareExp l0 l1 l2 l1 * o1 + shareExp l0 l1 l2 l2 * o2)
    (shareExp l0 l1 l2 l0 + shareExp l0 l1 l2 l1 + shareExp l0 l1 l2 l2)

/-- A sum over 4096 hidden units is the sum of its four quarters. -/
theorem sum_quarters (g : Fin 4096 → EReal) :
    ∑ f, g f = (∑ x : Fin 1024, g ⟨x.1, by omega⟩) + (∑ x : Fin 1024, g ⟨1024 + x.1, by omega⟩)
      + (∑ x : Fin 1024, g ⟨2048 + x.1, by omega⟩) + (∑ x : Fin 1024, g ⟨3072 + x.1, by omega⟩) := by
  have h1 := Fin.sum_univ_add (a := 3072) (b := 1024) g
  have h2 := Fin.sum_univ_add (a := 2048) (b := 1024) (fun i : Fin 3072 => g (Fin.castAdd 1024 i))
  have h3 := Fin.sum_univ_add (a := 1024) (b := 1024) (fun i : Fin 2048 => g (Fin.castAdd 1024 (Fin.castAdd 1024 i)))
  refine h1.trans ?_
  rw [h2, h3]
  rfl

end Cert.MlpSpec
-- ==== Proof.MlpPay.lean ====
module

public import proofs.«01_k».proof.Proof.Gen.MlpKernelIdeal.Skeleton
public import proofs.«01_k».proof.Proof.MlpSpec
public import Idealize.ShloMosaic.Lib.Pointwise
public import Idealize.ShloMosaic.Lib.Pipeline.Value

@[expose] public section

set_option maxRecDepth 16384

noncomputable section

/-! The values the kernel's body computes for one block, each at an index, as the row functions of `Cert.MlpSpec`. -/

namespace Cert.MlpPay

open Cert.MlpKernelIdeal Cert.MlpKernelIdeal.Gen Idealize.ShloMosaic Cert.MlpSpec

/-- The first branch's projection. -/
theorem pay3_apply (a : FVec Ideal S512x768 .bf16) (w : Vec Ideal S768x1024 .bf16) (r : Fin 512) (n : Fin 1024) :
    k0_pay3 a w (ix2 r n) = ∑ k : Fin 768, a (ix2 r k) * w (ix2 k n) := by
  pointwise [k0_pay3]

/-- The second branch: the three groups mixed, then projected. -/
theorem pay4_apply (v32 : FVec Ideal S512x256 .f32) (v33 v35 v45 v48 v52 : Vec Ideal S1x512x256 .f32)
    (v63 : Vec Ideal S256x1024 .bf16) (r : Fin 512) (n : Fin 1024) :
    k0_pay4 v32 v33 v35 v45 v48 v52 v63 (ix2 r n) = ∑ k : Fin 256,
      mix3 (v32 (ix2 r k)) (v33 (ix3 0 r k)) (v35 (ix3 0 r k)) (v45 (ix3 0 r k)) (v48 (ix3 0 r k)) (v52 (ix3 0 r k))
        * v63 (ix2 k n) := by
  pointwise [k0_pay4, mix3, shareExp]
  rfl

/-- The residual stream after the output projection. -/
theorem pay6_apply (v61 v65 v68 : FVec Ideal S512x1024 .f32) (v70 : Vec Ideal S1x512x1024 .bf16)
    (v75 : Vec Ideal S1x512x1024 .f32) (v78 : Vec Ideal S1024x1024 .bf16) (r : Fin 512) (n : Fin 1024) :
    k0_pay6 v61 v65 v68 v70 v75 v78 (ix2 r n) = resid (fun n => v75 (ix3 0 r n))
      (fun k => v68 (ix2 r k) * v61 (ix2 r k) + v70 (ix3 0 r k) * v65 (ix2 r k)) (fun k n => v78 (ix2 k n)) n := by
  pointwise [k0_pay6, resid]

/-- The normalized stream. -/
theorem pay7_apply (v61 v65 v68 : FVec Ideal S512x1024 .f32) (v70 : Vec Ideal S1x512x1024 .bf16)
    (v75 : Vec Ideal S1x512x1024 .f32) (v78 : Vec Ideal S1024x1024 .bf16) (v92 : Vec Ideal S1x1024 .f32)
    (r : Fin 512) (n : Fin 1024) :
    k0_pay7 v61 v65 v68 v70 v75 v78 v92 (ix2 r n)
      = normed (fun n => k0_pay6 v61 v65 v68 v70 v75 v78 (ix2 r n)) (fun n => v92 (ix2 0 n)) n := by
  pointwise [k0_pay7, normed]

/-- The first quarter of the hidden units added to the residual stream. -/
theorem pay8_apply (v61 v65 v68 : FVec Ideal S512x1024 .f32) (v70 : Vec Ideal S1x512x1024 .bf16)
    (v75 : Vec Ideal S1x512x1024 .f32) (v78 : Vec Ideal S1024x1024 .bf16) (v92 : Vec Ideal S1x1024 .f32)
    (v97 v104 : Vec Ideal S1024x1024 .bf16) (r : Fin 512) (n : Fin 1024) :
    k0_pay8 v61 v65 v68 v70 v75 v78 v92 v97 v104 (ix2 r n)
      = k0_pay6 v61 v65 v68 v70 v75 v78 (ix2 r n)
        + ∑ f : Fin 1024, hid (fun k => k0_pay7 v61 v65 v68 v70 v75 v78 v92 (ix2 r k)) (fun k => v97 (ix2 k f))
          * v104 (ix2 f n) := by
  pointwise [k0_pay8, hid]

/-- The other three quarters. -/
theorem pay9_apply (v96 : FVec Ideal S512x1024 .bf16) (v107 : FVec Ideal S512x1024 .f32)
    (v108 v115 v119 v126 v130 v137 : Vec Ideal S1024x1024 .bf16) (r : Fin 512) (n : Fin 1024) :
    k0_pay9 v96 v107 v108 v115 v119 v126 v130 v137 (ix3 0 r n) = v107 (ix2 r n)
      + (∑ f : Fin 1024, hid (fun k => v96 (ix2 r k)) (fun k => v108 (ix2 k f)) * v115 (ix2 f n))
      + (∑ f : Fin 1024, hid (fun k => v96 (ix2 r k)) (fun k => v119 (ix2 k f)) * v126 (ix2 f n))
      + (∑ f : Fin 1024, hid (fun k => v96 (ix2 r k)) (fun k => v130 (ix2 k f)) * v137 (ix2 f n)) := by
  pointwise [k0_pay9, hid]

/-- Of the four parts of the first branch the body takes the one its block of rows lies in. -/
theorem pay1_apply (i : grid0.Coords) (v17 v20 v24 v28 : Vec Ideal S1x512x768 .bf16) (r : Fin 512) (k : Fin 768) :
    k0_pay1 i v17 v20 v24 v28 (ix2 r k) = if (i 1).1 / 2 = 3 then v28 (ix3 0 r k) else
      if (i 1).1 / 2 = 2 then v24 (ix3 0 r k) else if (i 1).1 / 2 = 1 then v20 (ix3 0 r k) else v17 (ix3 0 r k) := by
  pointwise [k0_pay1]
  generalize i 1 = p
  change Fin 8 at p
  fin_cases p <;> rfl

/-- The second branch's gate. -/
theorem pay5_apply (v : Vec Ideal S1x512x1024 .bf16) (r : Fin 512) (n : Fin 1024) :
    k0_pay5 v (ix2 r n) = v (ix3 0 r n) := by
  pointwise [k0_pay5]

/-- The first group's log-sum-exp. -/
theorem pay2_apply (v : Vec Ideal S1x512x256 .f32) (r : Fin 512) (k : Fin 256) :
    k0_pay2 v (ix2 r k) = v (ix3 0 r k) := by
  pointwise [k0_pay2]

end Cert.MlpPay
-- ==== Proof.MlpOut.lean ====
module

public import proofs.«01_k».proof.Proof.Gen.MlpKernelIdeal.Frame
public import proofs.«01_k».proof.Proof.MlpPay
public import Idealize.ShloMosaic.Lib.Pipeline.ValueKit.Tiles

@[expose] public section

set_option maxRecDepth 16384

noncomputable section

/-! One block the kernel's body writes, read at a row and a column: the row function of that row's operands. -/

namespace Cert.MlpOut

open Cert.MlpKernelIdeal Cert.MlpKernelIdeal.Gen Idealize.ShloMosaic Cert.MlpSpec Cert.MlpPay

theorem zero2 : (![0, 0] : Fin 2 → Nat) = fun _ => 0 := funext fun a => by fin_cases a <;> rfl
theorem zero3 : (![0, 0, 0] : Fin 3 → Nat) = fun _ => 0 := funext fun a => by fin_cases a <;> rfl

/-- A quarter of the first feed-forward weight, read at an index. -/
theorem ld_cols (x : Vec Ideal S1024x4096 .bf16) (o : Nat) (inb) (k f : Fin 1024) (h : o + f.1 < 4096) :
    View.ld (Val := Elt Ideal) x (Rect.unit (s := S1024x4096) ![0, o] S1024x1024.size inb) (ix2 k f)
      = x (ix2 k ⟨o + f.1, h⟩) := by
  refine View.ld_unit_apply_of x _ _ inb _ _ fun a => ?_
  fin_cases a
  · exact (Nat.zero_add _).symm
  · rfl

/-- A quarter of the second. -/
theorem ld_rows (x : Vec Ideal S4096x1024 .bf16) (o : Nat) (inb) (f n : Fin 1024) (h : o + f.1 < 4096) :
    View.ld (Val := Elt Ideal) x (Rect.unit (s := S4096x1024) ![o, 0] S1024x1024.size inb) (ix2 f n)
      = x (ix2 ⟨o + f.1, h⟩ n) := by
  refine View.ld_unit_apply_of x _ _ inb _ _ fun a => ?_
  fin_cases a
  · rfl
  · exact (Nat.zero_add _).symm

/-- The part of the first branch a block of rows reads. -/
def pick (p : Nat) (y0 y1 y2 y3 : EReal) : EReal :=
  if p = 3 then y3 else if p = 2 then y2 else if p = 1 then y1 else y0

/-- The block at a row and a column. -/
theorem out_apply (i : grid0.Coords) (x0 : Vec Ideal S1x512x1024 .f32) (x1 x2 x3 x4 : Vec Ideal S1x512x768 .bf16)
    (x5 x6 x7 x8 x9 x10 : Vec Ideal S1x512x256 .f32) (x11 x12 : Vec Ideal S1x512x1024 .bf16)
    (x13 : Vec Ideal S768x1024 .bf16) (x14 : Vec Ideal S256x1024 .bf16) (x15 : Vec Ideal S1024x1024 .bf16)
    (x16 : Vec Ideal S1x1024 .f32) (x17 : Vec Ideal S1024x4096 .bf16) (x18 : Vec Ideal S4096x1024 .bf16)
    (r : Fin 512) (n : Fin 1024) :
    out0_19 i x0 x1 x2 x3 x4 x5 x6 x7 x8 x9 x10 x11 x12 x13 x14 x15 x16 x17 x18 (ix3 0 r n)
      = row (fun n => x0 (ix3 0 r n))
          (fun k => pick ((i 1).1 / 2) (x1 (ix3 0 r k)) (x2 (ix3 0 r k)) (x3 (ix3 0 r k)) (x4 (ix3 0 r k)))
          (fun k => mix3 (x8 (ix3 0 r k)) (x9 (ix3 0 r k)) (x10 (ix3 0 r k)) (x5 (ix3 0 r k)) (x6 (ix3 0 r k)) (x7 (ix3 0 r k)))
          (fun n => x11 (ix3 0 r n)) (fun n => x12 (ix3 0 r n)) (fun n => x16 (ix2 0 n))
          (fun k n => x13 (ix2 k n)) (fun k n => x14 (ix2 k n)) (fun k n => x15 (ix2 k n)) (fun k f => x17 (ix2 k f))
          (fun f n => x18 (ix2 f n)) n := by
  unfold_out out0_19
  rw [View.canon_unit_zero zero3]
  have l0 (x : Vec Ideal S1x512x768 .bf16) : View.ld (Val := Elt Ideal) x r0_0 = x := View.ld_unit_zero zero3 _ x
  have l1 (x : Vec Ideal S1x512x256 .f32) : View.ld (Val := Elt Ideal) x r0_1 = x := View.ld_unit_zero zero3 _ x
  have l2 : View.ld (Val := Elt Ideal) x13 r0_2 = x13 := View.ld_unit_zero zero2 _ x13
  have l3 : View.ld (Val := Elt Ideal) x14 r0_3 = x14 := View.ld_unit_zero zero2 _ x14
  have l4 : View.ld (Val := Elt Ideal) x0 r0_4 = x0 := View.ld_unit_zero zero3 _ x0
  have l4' (x : Vec Ideal S1x512x1024 .bf16) : View.ld (Val := Elt Ideal) x r0_4 = x := View.ld_unit_zero zero3 _ x
  have l5 : View.ld (Val := Elt Ideal) x15 r0_5 = x15 := View.ld_unit_zero zero2 _ x15
  have l6 (n : Fin 1024) : View.ld (Val := Elt Ideal) x16 r0_6 (ix2 0 n) = x16 (ix2 0 n) :=
    congrFun (View.ld_unit_zero zero2 _ x16) _
  have c0 (k f : Fin 1024) : View.ld (Val := Elt Ideal) x17 r0_7 (ix2 k f) = x17 (ix2 k ⟨f.1, by omega⟩) := by
    rw [ld_cols x17 0 _ k f (by omega)]; simp only [Nat.zero_add]
  have d0 (f n : Fin 1024) : View.ld (Val := Elt Ideal) x18 r0_8 (ix2 f n) = x18 (ix2 ⟨f.1, by omega⟩ n) := by
    rw [ld_rows x18 0 _ f n (by omega)]; simp only [Nat.zero_add]
  have c1 (k f : Fin 1024) := ld_cols x17 1024 inb_S1024x4096_S1024x1024_0_1024 k f (by omega)
  have c2 (k f : Fin 1024) := ld_cols x17 2048 inb_S1024x4096_S1024x1024_0_2048 k f (by omega)
  have c3 (k f : Fin 1024) := ld_cols x17 3072 inb_S1024x4096_S1024x1024_0_3072 k f (by omega)
  have d1 (f n : Fin 1024) := ld_rows x18 1024 inb_S4096x1024_S1024x1024_1024_0 f n (by omega)
  have d2 (f n : Fin 1024) := ld_rows x18 2048 inb_S4096x1024_S1024x1024_2048_0 f n (by omega)
  have d3 (f n : Fin 1024) := ld_rows x18 3072 inb_S4096x1024_S1024x1024_3072_0 f n (by omega)
  rw [pay9_apply]
  simp only [pay8_apply, pay7_apply]
  unfold row fed
  rw [sum_quarters]
  simp only [pay6_apply, pay3_apply, pay4_apply, pay5_apply, pay2_apply, pay1_apply, l0, l1, l2, l3, l4, l4', l5, l6,
    c0, c1, c2, c3, d0, d1, d2, d3, add_assoc]
  rfl

end Cert.MlpOut
-- ==== Proof.MlpReads.lean ====
module

public import proofs.«01_k».proof.Proof.Gen.MlpKernelIdeal.Value
public import proofs.«01_k».proof.Proof.MlpOut
public import Idealize.ShloMosaic.Lib.StableHlo.ReadAt

@[expose] public section

set_option maxRecDepth 16384

noncomputable section

/-! What each window reads at a grid point, in terms of the call's arguments: point `t` is batch `t / 8` and the block of
    512 rows number `t % 8`. -/

namespace Cert.MlpReads

open Cert.MlpKernelIdeal Cert.MlpKernelIdeal.Gen Idealize.ShloMosaic Idealize.ShloMosaic.TcCoe Cert.MlpSpec Cert.MlpOut

variable (m : (ℓ : Loc nD τ sig) → Buf (Elt Ideal) ℓ)

/-- An index of three coordinates from the coordinates' values. -/
theorem ext3 {A B C : Nat} (e : (⟨3, ![A, B, C]⟩ : Shape).Idx) (i : Fin A) (j : Fin B) (k : Fin C)
    (h0 : (e 0 : Nat) = i.1) (h1 : (e 1 : Nat) = j.1) (h2 : (e 2 : Nat) = k.1) : e = ix3 i j k := by
  funext a; match a with | ⟨0, _⟩ => exact Fin.ext h0 | ⟨1, _⟩ => exact Fin.ext h1 | ⟨2, _⟩ => exact Fin.ext h2

/-- An index of two coordinates from the coordinates' values. -/
theorem ext2 {A B : Nat} (e : (⟨2, ![A, B]⟩ : Shape).Idx) (i : Fin A) (j : Fin B)
    (h0 : (e 0 : Nat) = i.1) (h1 : (e 1 : Nat) = j.1) : e = ix2 i j := by
  funext a; match a with | ⟨0, _⟩ => exact Fin.ext h0 | ⟨1, _⟩ => exact Fin.ext h1

theorem lt32 (t : Fin grid0.N) : t.1 < 32 := t.isLt.trans_eq N_0

/-- The batch of a grid point. -/
def bi (t : Fin grid0.N) : Fin 4 := ⟨t.1 / 8, by have := lt32 t; omega⟩
/-- Row `r` of its block, as a row of the sequence. -/
def si (t : Fin grid0.N) (r : Fin 512) : Fin 4096 := ⟨512 * (t.1 % 8) + r.1, by omega⟩
/-- Row `r` of the block it reads of the part of the first branch whose rows start at block `q`. -/
def pi (q : Nat) (t : Fin grid0.N) (r : Fin 512) : Fin 1024 := ⟨512 * min (t.1 % 8 - q) 1 + r.1, by omega⟩

theorem coord1 : ∀ t : Fin grid0.N, (grid0.coords t 1).1 = t.1 % 8 := by decide +kernel

/-- Argument 0. -/
abbrev a0 (c : Dev nD) : Vec Ideal S4x4096x1024 .f32 := m ((c : Thread nD τ).loc main_arg0)
/-- Argument 1. -/
abbrev a1 (c : Dev nD) : Vec Ideal S4x1024x768 .bf16 := m ((c : Thread nD τ).loc main_arg1)
/-- Argument 2. -/
abbrev a2 (c : Dev nD) : Vec Ideal S4x1024x768 .bf16 := m ((c : Thread nD τ).loc main_arg2)
/-- Argument 3. -/
abbrev a3 (c : Dev nD) : Vec Ideal S4x1024x768 .bf16 := m ((c : Thread nD τ).loc main_arg3)
/-- Argument 4. -/
abbrev a4 (c : Dev nD) : Vec Ideal S4x1024x768 .bf16 := m ((c : Thread nD τ).loc main_arg4)
/-- Argument 5. -/
abbrev a5 (c : Dev nD) : Vec Ideal S4x4096x256 .f32 := m ((c : Thread nD τ).loc main_arg5)
/-- Argument 6. -/
abbrev a6 (c : Dev nD) : Vec Ideal S4x4096x256 .f32 := m ((c : Thread nD τ).loc main_arg6)
/-- Argument 7. -/
abbrev a7 (c : Dev nD) : Vec Ideal S4x4096x256 .f32 := m ((c : Thread nD τ).loc main_arg7)
/-- Argument 8. -/
abbrev a8 (c : Dev nD) : Vec Ideal S4x4096x256 .f32 := m ((c : Thread nD τ).loc main_arg8)
/-- Argument 9. -/
abbrev a9 (c : Dev nD) : Vec Ideal S4x4096x256 .f32 := m ((c : Thread nD τ).loc main_arg9)
/-- Argument 10. -/
abbrev a10 (c : Dev nD) : Vec Ideal S4x4096x256 .f32 := m ((c : Thread nD τ).loc main_arg10)
/-- Argument 11. -/
abbrev a11 (c : Dev nD) : Vec Ideal S4x4096x1024 .bf16 := m ((c : Thread nD τ).loc main_arg11)
/-- Argument 12. -/
abbrev a12 (c : Dev nD) : Vec Ideal S4x4096x1024 .bf16 := m ((c : Thread nD τ).loc main_arg12)
/-- Argument 13. -/
abbrev a13 (c : Dev nD) : Vec Ideal S768x1024 .f32 := m ((c : Thread nD τ).loc main_arg13)
/-- Argument 14. -/
abbrev a14 (c : Dev nD) : Vec Ideal S256x1024 .f32 := m ((c : Thread nD τ).loc main_arg14)
/-- Argument 15. -/
abbrev a15 (c : Dev nD) : Vec Ideal S1024x1024 .f32 := m ((c : Thread nD τ).loc main_arg15)
/-- Argument 16. -/
abbrev a16 (c : Dev nD) : Vec Ideal S1024 .f32 := m ((c : Thread nD τ).loc main_arg16)
/-- Argument 17. -/
abbrev a17 (c : Dev nD) : Vec Ideal S1024x4096 .f32 := m ((c : Thread nD τ).loc main_arg17)
/-- Argument 18. -/
abbrev a18 (c : Dev nD) : Vec Ideal S4096x1024 .f32 := m ((c : Thread nD τ).loc main_arg18)

theorem ix_0 : ∀ t : Fin grid0.N, win0_0.index t 0 * win0_0.size 0 = t.1 / 8
    ∧ win0_0.index t 1 * win0_0.size 1 = 512 * (t.1 % 8) ∧ win0_0.index t 2 * win0_0.size 2 = 0 := by decide +kernel
theorem rd_0 (c : Dev nD) (t : Fin cfg0.N) (r : Fin 512) (n : Fin 1024) :
    iblk m c 0 t (ix3 0 r n) = a0 m c (ix3 (bi t) (si t r) n) := by
  show V m c main_arg0 ((win0_0.rect t).emb (ix3 0 r n)) = _
  rw [V_main_arg0]
  obtain ⟨e0, e1, e2⟩ := ix_0 t
  refine congrArg _ (ext3 _ _ _ _ ?_ ?_ ?_)
  · refine (Pipeline.Window.rect_emb_val win0_0 t _ 0).trans ?_; rw [e0]; rfl
  · refine (Pipeline.Window.rect_emb_val win0_0 t _ 1).trans ?_; rw [e1]; rfl
  · refine (Pipeline.Window.rect_emb_val win0_0 t _ 2).trans ?_; rw [e2]; exact Nat.zero_add _

theorem ix_1 : ∀ t : Fin grid0.N, win0_1.index t 0 * win0_1.size 0 = t.1 / 8
    ∧ win0_1.index t 1 * win0_1.size 1 = 512 * min (t.1 % 8 - 0) 1 ∧ win0_1.index t 2 * win0_1.size 2 = 0 := by decide +kernel
theorem rd_1 (c : Dev nD) (t : Fin cfg0.N) (r : Fin 512) (n : Fin 768) :
    iblk m c 1 t (ix3 0 r n) = a1 m c (ix3 (bi t) (pi 0 t r) n) := by
  show V m c main_arg1 ((win0_1.rect t).emb (ix3 0 r n)) = _
  rw [V_main_arg1]
  obtain ⟨e0, e1, e2⟩ := ix_1 t
  refine congrArg _ (ext3 _ _ _ _ ?_ ?_ ?_)
  · refine (Pipeline.Window.rect_emb_val win0_1 t _ 0).trans ?_; rw [e0]; rfl
  · refine (Pipeline.Window.rect_emb_val win0_1 t _ 1).trans ?_; rw [e1]; rfl
  · refine (Pipeline.Window.rect_emb_val win0_1 t _ 2).trans ?_; rw [e2]; exact Nat.zero_add _

theorem ix_2 : ∀ t : Fin grid0.N, win0_2.index t 0 * win0_2.size 0 = t.1 / 8
    ∧ win0_2.index t 1 * win0_2.size 1 = 512 * min (t.1 % 8 - 2) 1 ∧ win0_2.index t 2 * win0_2.size 2 = 0 := by decide +kernel
theorem rd_2 (c : Dev nD) (t : Fin cfg0.N) (r : Fin 512) (n : Fin 768) :
    iblk m c 2 t (ix3 0 r n) = a2 m c (ix3 (bi t) (pi 2 t r) n) := by
  show V m c main_arg2 ((win0_2.rect t).emb (ix3 0 r n)) = _
  rw [V_main_arg2]
  obtain ⟨e0, e1, e2⟩ := ix_2 t
  refine congrArg _ (ext3 _ _ _ _ ?_ ?_ ?_)
  · refine (Pipeline.Window.rect_emb_val win0_2 t _ 0).trans ?_; rw [e0]; rfl
  · refine (Pipeline.Window.rect_emb_val win0_2 t _ 1).trans ?_; rw [e1]; rfl
  · refine (Pipeline.Window.rect_emb_val win0_2 t _ 2).trans ?_; rw [e2]; exact Nat.zero_add _

theorem ix_3 : ∀ t : Fin grid0.N, win0_3.index t 0 * win0_3.size 0 = t.1 / 8
    ∧ win0_3.index t 1 * win0_3.size 1 = 512 * min (t.1 % 8 - 4) 1 ∧ win0_3.index t 2 * win0_3.size 2 = 0 := by decide +kernel
theorem rd_3 (c : Dev nD) (t : Fin cfg0.N) (r : Fin 512) (n : Fin 768) :
    iblk m c 3 t (ix3 0 r n) = a3 m c (ix3 (bi t) (pi 4 t r) n) := by
  show V m c main_arg3 ((win0_3.rect t).emb (ix3 0 r n)) = _
  rw [V_main_arg3]
  obtain ⟨e0, e1, e2⟩ := ix_3 t
  refine congrArg _ (ext3 _ _ _ _ ?_ ?_ ?_)
  · refine (Pipeline.Window.rect_emb_val win0_3 t _ 0).trans ?_; rw [e0]; rfl
  · refine (Pipeline.Window.rect_emb_val win0_3 t _ 1).trans ?_; rw [e1]; rfl
  · refine (Pipeline.Window.rect_emb_val win0_3 t _ 2).trans ?_; rw [e2]; exact Nat.zero_add _

theorem ix_4 : ∀ t : Fin grid0.N, win0_4.index t 0 * win0_4.size 0 = t.1 / 8
    ∧ win0_4.index t 1 * win0_4.size 1 = 512 * min (t.1 % 8 - 6) 1 ∧ win0_4.index t 2 * win0_4.size 2 = 0 := by decide +kernel
theorem rd_4 (c : Dev nD) (t : Fin cfg0.N) (r : Fin 512) (n : Fin 768) :
    iblk m c 4 t (ix3 0 r n) = a4 m c (ix3 (bi t) (pi 6 t r) n) := by
  show V m c main_arg4 ((win0_4.rect t).emb (ix3 0 r n)) = _
  rw [V_main_arg4]
  obtain ⟨e0, e1, e2⟩ := ix_4 t
  refine congrArg _ (ext3 _ _ _ _ ?_ ?_ ?_)
  · refine (Pipeline.Window.rect_emb_val win0_4 t _ 0).trans ?_; rw [e0]; rfl
  · refine (Pipeline.Window.rect_emb_val win0_4 t _ 1).trans ?_; rw [e1]; rfl
  · refine (Pipeline.Window.rect_emb_val win0_4 t _ 2).trans ?_; rw [e2]; exact Nat.zero_add _

theorem ix_5 : ∀ t : Fin grid0.N, win0_5.index t 0 * win0_5.size 0 = t.1 / 8
    ∧ win0_5.index t 1 * win0_5.size 1 = 512 * (t.1 % 8) ∧ win0_5.index t 2 * win0_5.size 2 = 0 := by decide +kernel
theorem rd_5 (c : Dev nD) (t : Fin cfg0.N) (r : Fin 512) (n : Fin 256) :
    iblk m c 5 t (ix3 0 r n) = a5 m c (ix3 (bi t) (si t r) n) := by
  show V m c main_arg5 ((win0_5.rect t).emb (ix3 0 r n)) = _
  rw [V_main_arg5]
  obtain ⟨e0, e1, e2⟩ := ix_5 t
  refine congrArg _ (ext3 _ _ _ _ ?_ ?_ ?_)
  · refine (Pipeline.Window.rect_emb_val win0_5 t _ 0).trans ?_; rw [e0]; rfl
  · refine (Pipeline.Window.rect_emb_val win0_5 t _ 1).trans ?_; rw [e1]; rfl
  · refine (Pipeline.Window.rect_emb_val win0_5 t _ 2).trans ?_; rw [e2]; exact Nat.zero_add _

theorem ix_6 : ∀ t : Fin grid0.N, win0_6.index t 0 * win0_6.size 0 = t.1 / 8
    ∧ win0_6.index t 1 * win0_6.size 1 = 512 * (t.1 % 8) ∧ win0_6.index t 2 * win0_6.size 2 = 0 := by decide +kernel
theorem rd_6 (c : Dev nD) (t : Fin cfg0.N) (r : Fin 512) (n : Fin 256) :
    iblk m c 6 t (ix3 0 r n) = a6 m c (ix3 (bi t) (si t r) n) := by
  show V m c main_arg6 ((win0_6.rect t).emb (ix3 0 r n)) = _
  rw [V_main_arg6]
  obtain ⟨e0, e1, e2⟩ := ix_6 t
  refine congrArg _ (ext3 _ _ _ _ ?_ ?_ ?_)
  · refine (Pipeline.Window.rect_emb_val win0_6 t _ 0).trans ?_; rw [e0]; rfl
  · refine (Pipeline.Window.rect_emb_val win0_6 t _ 1).trans ?_; rw [e1]; rfl
  · refine (Pipeline.Window.rect_emb_val win0_6 t _ 2).trans ?_; rw [e2]; exact Nat.zero_add _

theorem ix_7 : ∀ t : Fin grid0.N, win0_7.index t 0 * win0_7.size 0 = t.1 / 8
    ∧ win0_7.index t 1 * win0_7.size 1 = 512 * (t.1 % 8) ∧ win0_7.index t 2 * win0_7.size 2 = 0 := by decide +kernel
theorem rd_7 (c : Dev nD) (t : Fin cfg0.N) (r : Fin 512) (n : Fin 256) :
    iblk m c 7 t (ix3 0 r n) = a7 m c (ix3 (bi t) (si t r) n) := by
  show V m c main_arg7 ((win0_7.rect t).emb (ix3 0 r n)) = _
  rw [V_main_arg7]
  obtain ⟨e0, e1, e2⟩ := ix_7 t
  refine congrArg _ (ext3 _ _ _ _ ?_ ?_ ?_)
  · refine (Pipeline.Window.rect_emb_val win0_7 t _ 0).trans ?_; rw [e0]; rfl
  · refine (Pipeline.Window.rect_emb_val win0_7 t _ 1).trans ?_; rw [e1]; rfl
  · refine (Pipeline.Window.rect_emb_val win0_7 t _ 2).trans ?_; rw [e2]; exact Nat.zero_add _

theorem ix_8 : ∀ t : Fin grid0.N, win0_8.index t 0 * win0_8.size 0 = t.1 / 8
    ∧ win0_8.index t 1 * win0_8.size 1 = 512 * (t.1 % 8) ∧ win0_8.index t 2 * win0_8.size 2 = 0 := by decide +kernel
theorem rd_8 (c : Dev nD) (t : Fin cfg0.N) (r : Fin 512) (n : Fin 256) :
    iblk m c 8 t (ix3 0 r n) = a8 m c (ix3 (bi t) (si t r) n) := by
  show V m c main_arg8 ((win0_8.rect t).emb (ix3 0 r n)) = _
  rw [V_main_arg8]
  obtain ⟨e0, e1, e2⟩ := ix_8 t
  refine congrArg _ (ext3 _ _ _ _ ?_ ?_ ?_)
  · refine (Pipeline.Window.rect_emb_val win0_8 t _ 0).trans ?_; rw [e0]; rfl
  · refine (Pipeline.Window.rect_emb_val win0_8 t _ 1).trans ?_; rw [e1]; rfl
  · refine (Pipeline.Window.rect_emb_val win0_8 t _ 2).trans ?_; rw [e2]; exact Nat.zero_add _

theorem ix_9 : ∀ t : Fin grid0.N, win0_9.index t 0 * win0_9.size 0 = t.1 / 8
    ∧ win0_9.index t 1 * win0_9.size 1 = 512 * (t.1 % 8) ∧ win0_9.index t 2 * win0_9.size 2 = 0 := by decide +kernel
theorem rd_9 (c : Dev nD) (t : Fin cfg0.N) (r : Fin 512) (n : Fin 256) :
    iblk m c 9 t (ix3 0 r n) = a9 m c (ix3 (bi t) (si t r) n) := by
  show V m c main_arg9 ((win0_9.rect t).emb (ix3 0 r n)) = _
  rw [V_main_arg9]
  obtain ⟨e0, e1, e2⟩ := ix_9 t
  refine congrArg _ (ext3 _ _ _ _ ?_ ?_ ?_)
  · refine (Pipeline.Window.rect_emb_val win0_9 t _ 0).trans ?_; rw [e0]; rfl
  · refine (Pipeline.Window.rect_emb_val win0_9 t _ 1).trans ?_; rw [e1]; rfl
  · refine (Pipeline.Window.rect_emb_val win0_9 t _ 2).trans ?_; rw [e2]; exact Nat.zero_add _

theorem ix_10 : ∀ t : Fin grid0.N, win0_10.index t 0 * win0_10.size 0 = t.1 / 8
    ∧ win0_10.index t 1 * win0_10.size 1 = 512 * (t.1 % 8) ∧ win0_10.index t 2 * win0_10.size 2 = 0 := by decide +kernel
theorem rd_10 (c : Dev nD) (t : Fin cfg0.N) (r : Fin 512) (n : Fin 256) :
    iblk m c 10 t (ix3 0 r n) = a10 m c (ix3 (bi t) (si t r) n) := by
  show V m c main_arg10 ((win0_10.rect t).emb (ix3 0 r n)) = _
  rw [V_main_arg10]
  obtain ⟨e0, e1, e2⟩ := ix_10 t
  refine congrArg _ (ext3 _ _ _ _ ?_ ?_ ?_)
  · refine (Pipeline.Window.rect_emb_val win0_10 t _ 0).trans ?_; rw [e0]; rfl
  · refine (Pipeline.Window.rect_emb_val win0_10 t _ 1).trans ?_; rw [e1]; rfl
  · refine (Pipeline.Window.rect_emb_val win0_10 t _ 2).trans ?_; rw [e2]; exact Nat.zero_add _

theorem ix_11 : ∀ t : Fin grid0.N, win0_11.index t 0 * win0_11.size 0 = t.1 / 8
    ∧ win0_11.index t 1 * win0_11.size 1 = 512 * (t.1 % 8) ∧ win0_11.index t 2 * win0_11.size 2 = 0 := by decide +kernel
theorem rd_11 (c : Dev nD) (t : Fin cfg0.N) (r : Fin 512) (n : Fin 1024) :
    iblk m c 11 t (ix3 0 r n) = a11 m c (ix3 (bi t) (si t r) n) := by
  show V m c main_arg11 ((win0_11.rect t).emb (ix3 0 r n)) = _
  rw [V_main_arg11]
  obtain ⟨e0, e1, e2⟩ := ix_11 t
  refine congrArg _ (ext3 _ _ _ _ ?_ ?_ ?_)
  · refine (Pipeline.Window.rect_emb_val win0_11 t _ 0).trans ?_; rw [e0]; rfl
  · refine (Pipeline.Window.rect_emb_val win0_11 t _ 1).trans ?_; rw [e1]; rfl
  · refine (Pipeline.Window.rect_emb_val win0_11 t _ 2).trans ?_; rw [e2]; exact Nat.zero_add _

theorem ix_12 : ∀ t : Fin grid0.N, win0_12.index t 0 * win0_12.size 0 = t.1 / 8
    ∧ win0_12.index t 1 * win0_12.size 1 = 512 * (t.1 % 8) ∧ win0_12.index t 2 * win0_12.size 2 = 0 := by decide +kernel
theorem rd_12 (c : Dev nD) (t : Fin cfg0.N) (r : Fin 512) (n : Fin 1024) :
    iblk m c 12 t (ix3 0 r n) = a12 m c (ix3 (bi t) (si t r) n) := by
  show V m c main_arg12 ((win0_12.rect t).emb (ix3 0 r n)) = _
  rw [V_main_arg12]
  obtain ⟨e0, e1, e2⟩ := ix_12 t
  refine congrArg _ (ext3 _ _ _ _ ?_ ?_ ?_)
  · refine (Pipeline.Window.rect_emb_val win0_12 t _ 0).trans ?_; rw [e0]; rfl
  · refine (Pipeline.Window.rect_emb_val win0_12 t _ 1).trans ?_; rw [e1]; rfl
  · refine (Pipeline.Window.rect_emb_val win0_12 t _ 2).trans ?_; rw [e2]; exact Nat.zero_add _

theorem ix_13 : ∀ t : Fin grid0.N, win0_13.index t 0 * win0_13.size 0 = 0
    ∧ win0_13.index t 1 * win0_13.size 1 = 0 := by decide +kernel
theorem V_0 (c : Dev nD) (k : Fin 768) (n : Fin 1024) :
    V m c main_v0 (ix2 k n) = a13 m c (ix2 k n) := by
  unfold V
  after_reads_at
theorem rd_13 (c : Dev nD) (t : Fin cfg0.N) (k : Fin 768) (n : Fin 1024) :
    iblk m c 13 t (ix2 k n) = a13 m c (ix2 k n) := by
  show V m c main_v0 ((win0_13.rect t).emb (ix2 k n)) = _
  obtain ⟨e0, e1⟩ := ix_13 t
  refine (congrArg _ (ext2 _ k n ?_ ?_)).trans (V_0 m c k n)
  · refine (Pipeline.Window.rect_emb_val win0_13 t _ 0).trans ?_; rw [e0]; exact Nat.zero_add _
  · refine (Pipeline.Window.rect_emb_val win0_13 t _ 1).trans ?_; rw [e1]; exact Nat.zero_add _

theorem ix_14 : ∀ t : Fin grid0.N, win0_14.index t 0 * win0_14.size 0 = 0
    ∧ win0_14.index t 1 * win0_14.size 1 = 0 := by decide +kernel
theorem V_1 (c : Dev nD) (k : Fin 256) (n : Fin 1024) :
    V m c main_v1 (ix2 k n) = a14 m c (ix2 k n) := by
  unfold V
  after_reads_at
theorem rd_14 (c : Dev nD) (t : Fin cfg0.N) (k : Fin 256) (n : Fin 1024) :
    iblk m c 14 t (ix2 k n) = a14 m c (ix2 k n) := by
  show V m c main_v1 ((win0_14.rect t).emb (ix2 k n)) = _
  obtain ⟨e0, e1⟩ := ix_14 t
  refine (congrArg _ (ext2 _ k n ?_ ?_)).trans (V_1 m c k n)
  · refine (Pipeline.Window.rect_emb_val win0_14 t _ 0).trans ?_; rw [e0]; exact Nat.zero_add _
  · refine (Pipeline.Window.rect_emb_val win0_14 t _ 1).trans ?_; rw [e1]; exact Nat.zero_add _

theorem ix_15 : ∀ t : Fin grid0.N, win0_15.index t 0 * win0_15.size 0 = 0
    ∧ win0_15.index t 1 * win0_15.size 1 = 0 := by decide +kernel
theorem V_2 (c : Dev nD) (k : Fin 1024) (n : Fin 1024) :
    V m c main_v2 (ix2 k n) = a15 m c (ix2 k n) := by
  unfold V
  after_reads_at
theorem rd_15 (c : Dev nD) (t : Fin cfg0.N) (k : Fin 1024) (n : Fin 1024) :
    iblk m c 15 t (ix2 k n) = a15 m c (ix2 k n) := by
  show V m c main_v2 ((win0_15.rect t).emb (ix2 k n)) = _
  obtain ⟨e0, e1⟩ := ix_15 t
  refine (congrArg _ (ext2 _ k n ?_ ?_)).trans (V_2 m c k n)
  · refine (Pipeline.Window.rect_emb_val win0_15 t _ 0).trans ?_; rw [e0]; exact Nat.zero_add _
  · refine (Pipeline.Window.rect_emb_val win0_15 t _ 1).trans ?_; rw [e1]; exact Nat.zero_add _

theorem ix_16 : ∀ t : Fin grid0.N, win0_16.index t 0 * win0_16.size 0 = 0
    ∧ win0_16.index t 1 * win0_16.size 1 = 0 := by decide +kernel
theorem V_3 (c : Dev nD) (n : Fin 1024) : V m c main_v3 (ix2 0 n) = a16 m c (ix1 n) := by
  unfold V
  after_reads_at
theorem rd_16 (c : Dev nD) (t : Fin cfg0.N) (n : Fin 1024) :
    iblk m c 16 t (ix2 0 n) = a16 m c (ix1 n) := by
  show V m c main_v3 ((win0_16.rect t).emb (ix2 0 n)) = _
  obtain ⟨e0, e1⟩ := ix_16 t
  refine (congrArg _ (ext2 _ 0 n ?_ ?_)).trans (V_3 m c n)
  · refine (Pipeline.Window.rect_emb_val win0_16 t _ 0).trans ?_; rw [e0]; exact Nat.zero_add _
  · refine (Pipeline.Window.rect_emb_val win0_16 t _ 1).trans ?_; rw [e1]; exact Nat.zero_add _

theorem ix_17 : ∀ t : Fin grid0.N, win0_17.index t 0 * win0_17.size 0 = 0
    ∧ win0_17.index t 1 * win0_17.size 1 = 0 := by decide +kernel
theorem V_4 (c : Dev nD) (k : Fin 1024) (n : Fin 4096) :
    V m c main_v4 (ix2 k n) = a17 m c (ix2 k n) := by
  unfold V
  after_reads_at
theorem rd_17 (c : Dev nD) (t : Fin cfg0.N) (k : Fin 1024) (n : Fin 4096) :
    iblk m c 17 t (ix2 k n) = a17 m c (ix2 k n) := by
  show V m c main_v4 ((win0_17.rect t).emb (ix2 k n)) = _
  obtain ⟨e0, e1⟩ := ix_17 t
  refine (congrArg _ (ext2 _ k n ?_ ?_)).trans (V_4 m c k n)
  · refine (Pipeline.Window.rect_emb_val win0_17 t _ 0).trans ?_; rw [e0]; exact Nat.zero_add _
  · refine (Pipeline.Window.rect_emb_val win0_17 t _ 1).trans ?_; rw [e1]; exact Nat.zero_add _

theorem ix_18 : ∀ t : Fin grid0.N, win0_18.index t 0 * win0_18.size 0 = 0
    ∧ win0_18.index t 1 * win0_18.size 1 = 0 := by decide +kernel
theorem V_5 (c : Dev nD) (k : Fin 4096) (n : Fin 1024) :
    V m c main_v5 (ix2 k n) = a18 m c (ix2 k n) := by
  unfold V
  after_reads_at
theorem rd_18 (c : Dev nD) (t : Fin cfg0.N) (k : Fin 4096) (n : Fin 1024) :
    iblk m c 18 t (ix2 k n) = a18 m c (ix2 k n) := by
  show V m c main_v5 ((win0_18.rect t).emb (ix2 k n)) = _
  obtain ⟨e0, e1⟩ := ix_18 t
  refine (congrArg _ (ext2 _ k n ?_ ?_)).trans (V_5 m c k n)
  · refine (Pipeline.Window.rect_emb_val win0_18 t _ 0).trans ?_; rw [e0]; exact Nat.zero_add _
  · refine (Pipeline.Window.rect_emb_val win0_18 t _ 1).trans ?_; rw [e1]; exact Nat.zero_add _

end Cert.MlpReads
-- ==== Proof.MlpKer.lean ====
module

public import proofs.«01_k».proof.Proof.MlpReads

@[expose] public section

set_option maxRecDepth 16384

noncomputable section

/-! The kernel's result array, in closed form over the call's arguments. -/

namespace Cert.MlpKer

open Cert.MlpKernelIdeal Cert.MlpKernelIdeal.Gen Idealize.ShloMosaic Idealize.ShloMosaic.TcCoe Cert.MlpSpec Cert.MlpOut Cert.MlpReads

variable (m : (ℓ : Loc nD τ sig) → Buf (Elt Ideal) ℓ) (ρ : Dev nD → PrngReg)

/-- The first branch at a row of the sequence: part `s / 1024` at row `s % 1024`. -/
def part (c : Dev nD) (b : Fin 4) (s : Fin 4096) (k : Fin 768) : EReal :=
  let s' : Fin 1024 := ⟨s.1 % 1024, Nat.mod_lt _ (by decide)⟩
  pick (s.1 / 1024) (a1 m c (ix3 b s' k)) (a2 m c (ix3 b s' k)) (a3 m c (ix3 b s' k)) (a4 m c (ix3 b s' k))

/-- The second branch at a row of the sequence, the three dilated groups mixed. -/
def groups (c : Dev nD) (b : Fin 4) (s : Fin 4096) (k : Fin 256) : EReal :=
  mix3 (a8 m c (ix3 b s k)) (a9 m c (ix3 b s k)) (a10 m c (ix3 b s k))
    (a5 m c (ix3 b s k)) (a6 m c (ix3 b s k)) (a7 m c (ix3 b s k))

/-- The result at a batch, a row and a column. -/
def res (c : Dev nD) (b : Fin 4) (s : Fin 4096) (n : Fin 1024) : EReal :=
  row (fun n => a0 m c (ix3 b s n)) (part m c b s) (groups m c b s)
    (fun n => a11 m c (ix3 b s n)) (fun n => a12 m c (ix3 b s n)) (fun n => a16 m c (ix1 n))
    (fun k n => a13 m c (ix2 k n)) (fun k n => a14 m c (ix2 k n)) (fun k n => a15 m c (ix2 k n))
    (fun k f => a17 m c (ix2 k f)) (fun f n => a18 m c (ix2 f n)) n

/-- The whole result array. -/
def G (c : Dev nD) : Vec Ideal S4x4096x1024 .f32 := fun i => res m c (i 0) (i 1) (i 2)

/-- What the four windows of the first branch hold for a block of rows is, of the part it takes, the block's rows. -/
theorem part_eq (c : Dev nD) (t : Fin cfg0.N) (r : Fin 512) (k : Fin 768) :
    pick (t.1 % 8 / 2) (a1 m c (ix3 (bi t) (pi 0 t r) k)) (a2 m c (ix3 (bi t) (pi 2 t r) k))
      (a3 m c (ix3 (bi t) (pi 4 t r) k)) (a4 m c (ix3 (bi t) (pi 6 t r) k)) = part m c (bi t) (si t r) k := by
  have hs : (si t r).1 / 1024 = t.1 % 8 / 2 := by
    show (512 * (t.1 % 8) + r.1) / 1024 = _
    omega
  have key : ∀ p, t.1 % 8 / 2 = p → pi (2 * p) t r = ⟨(si t r).1 % 1024, Nat.mod_lt _ (by decide)⟩ := fun p h =>
    Fin.ext (by
      show 512 * min (t.1 % 8 - 2 * p) 1 + r.1 = (512 * (t.1 % 8) + r.1) % 1024
      omega)
  unfold part pick
  rw [hs]
  dsimp only
  by_cases h3 : t.1 % 8 / 2 = 3
  · rw [if_pos h3, if_pos h3, ← key 3 h3]
  rw [if_neg h3, if_neg h3]
  by_cases h2 : t.1 % 8 / 2 = 2
  · rw [if_pos h2, if_pos h2, ← key 2 h2]
  rw [if_neg h2, if_neg h2]
  by_cases h1 : t.1 % 8 / 2 = 1
  · rw [if_pos h1, if_pos h1, ← key 1 h1]
  rw [if_neg h1, if_neg h1, ← key 0 (by omega)]

theorem ix_19 : ∀ t : Fin grid0.N, (win0_19.index t 0 * win0_19.size 0 = t.1 / 8
    ∧ win0_19.index t 1 * win0_19.size 1 = 512 * (t.1 % 8) ∧ win0_19.index t 2 * win0_19.size 2 = 0)
    ∧ win0_19.xsize (grid0.coords t) 0 = 1 ∧ win0_19.xsize (grid0.coords t) 1 = 512
    ∧ win0_19.xsize (grid0.coords t) 2 = 1024 := by decide +kernel

/-- What a grid point writes back is its block of the result array. -/
theorem flushed_eq (c : Dev nD) (t : Fin cfg0.N) :
    (dats m 0 c).flushed 19 t = (win0_19.blk t).view.read (Elt Ideal) (G m c) := by
  rw [Value.flushed19]
  funext (y : S1x512x1024.Idx)
  show out0_19 (F := Ideal) (grid0.coords t) _ _ _ _ _ _ _ _ _ _ _ _ _ _ _ _ _ _ _ y = G m c ((win0_19.rect t).emb y)
  obtain ⟨r, n, rfl⟩ : ∃ (r : Fin 512) (n : Fin 1024), y = ix3 0 r n :=
    ⟨y 1, y 2, ext3 y 0 (y 1) (y 2) (by have : (y 0 : Nat) < 1 := (y 0).isLt; show (y 0 : Nat) = 0; omega) rfl rfl⟩
  obtain ⟨⟨e0, e1, e2⟩, -⟩ := ix_19 t
  have he : (win0_19.rect t).emb (ix3 0 r n) = ix3 (bi t) (si t r) n := by
    refine ext3 _ _ _ _ ?_ ?_ ?_
    · refine (Pipeline.Window.rect_emb_val win0_19 t _ 0).trans ?_; rw [e0]; rfl
    · refine (Pipeline.Window.rect_emb_val win0_19 t _ 1).trans ?_; rw [e1]; rfl
    · refine (Pipeline.Window.rect_emb_val win0_19 t _ 2).trans ?_; rw [e2]; exact Nat.zero_add _
  rw [he, out_apply]
  simp only [rd_0, rd_1, rd_2, rd_3, rd_4, rd_5, rd_6, rd_7, rd_8, rd_9, rd_10, rd_11, rd_12, rd_13, rd_14, rd_15,
    rd_16, rd_17, rd_18, coord1, part_eq]
  rfl

/-- An index of the result array lies in a grid point's block exactly when its batch and its row do. -/
theorem mem_blk (t : Fin cfg0.N) (i : S4x4096x1024.Idx) :
    i ∈ ((cfg0.win 19).blk t).view.set ↔ (i 0 : Nat) = t.1 / 8 ∧ 512 * (t.1 % 8) ≤ (i 1 : Nat)
      ∧ (i 1 : Nat) < 512 * (t.1 % 8) + 512 := by
  show i ∈ ((View.whole main_v6).slice (win0_19.rect t)).set ↔ _
  rw [View.set_slice_whole, Rect.mem_set_unit]
  have h2 : (i 2 : Nat) < 1024 := (i 2).isLt
  obtain ⟨⟨e0, e1, e2⟩, f0, f1, f2⟩ := ix_19 t
  refine ⟨fun h => ?_, fun h a => ?_⟩
  · have k0 : win0_19.index t 0 * win0_19.size 0 ≤ (i 0 : Nat)
        ∧ (i 0 : Nat) < win0_19.index t 0 * win0_19.size 0 + win0_19.xsize (grid0.coords t) 0 := h 0
    have k1 : win0_19.index t 1 * win0_19.size 1 ≤ (i 1 : Nat)
        ∧ (i 1 : Nat) < win0_19.index t 1 * win0_19.size 1 + win0_19.xsize (grid0.coords t) 1 := h 1
    rw [e0, f0] at k0
    rw [e1, f1] at k1
    exact ⟨by omega, k1⟩
  · match a with
    | ⟨0, _⟩ =>
      show win0_19.index t 0 * win0_19.size 0 ≤ (i 0 : Nat)
        ∧ (i 0 : Nat) < win0_19.index t 0 * win0_19.size 0 + win0_19.xsize (grid0.coords t) 0
      rw [e0, f0]; omega
    | ⟨1, _⟩ =>
      show win0_19.index t 1 * win0_19.size 1 ≤ (i 1 : Nat)
        ∧ (i 1 : Nat) < win0_19.index t 1 * win0_19.size 1 + win0_19.xsize (grid0.coords t) 1
      rw [e1, f1]; exact h.2
    | ⟨2, _⟩ =>
      show win0_19.index t 2 * win0_19.size 2 ≤ (i 2 : Nat)
        ∧ (i 2 : Nat) < win0_19.index t 2 * win0_19.size 2 + win0_19.xsize (grid0.coords t) 2
      rw [e2, f2]; omega

/-- The grid's blocks tile the result array. -/
theorem cover (i : S4x4096x1024.Idx) :
    ∃ t : Fin cfg0.N, (cfg0.win 19).flush t = true ∧ i ∈ ((cfg0.win 19).blk t).view.set := by
  have h0 : (i 0 : Nat) < 4 := (i 0).isLt
  have h1 : (i 1 : Nat) < 4096 := (i 1).isLt
  have hN : cfg0.N = 32 := N_0
  refine ⟨⟨(i 0 : Nat) * 8 + (i 1 : Nat) / 512, by omega⟩, flush0_19 _, ?_⟩
  rw [mem_blk]
  dsimp only
  omega

/-- The result array ends at the closed form. -/
theorem final (c : Dev nD) : (dats m 0 c).arrAt 19 cfg0.N = G m c :=
  (dats m 0 c).arrAt_eq_of_cover 19 (G m c) (fun t _ => flushed_eq m c t) cover

end Cert.MlpKer
-- ==== Proof.MlpRef.lean ====
module

public import proofs.«01_k».proof.Proof.Gen.MlpReferenceIdeal.Read
public import proofs.«01_k».proof.Proof.MlpSpec
public import Idealize.ShloMosaic.Lib.Pointwise

@[expose] public section

set_option maxRecDepth 16384

noncomputable section

/-! The reference's result, read at an index: stage by stage, each stage over the one before it. -/

namespace Cert.MlpRef

open Cert.MlpReferenceIdeal Cert.MlpReferenceIdeal.Gen Cert.MlpReferenceIdeal.Read Idealize.ShloMosaic Cert.MlpSpec

variable
  (x0 : Vec Ideal S4x4096x1024 .f32)
  (x1 : Vec Ideal S4x1024x768 .bf16)
  (x2 : Vec Ideal S4x1024x768 .bf16)
  (x3 : Vec Ideal S4x1024x768 .bf16)
  (x4 : Vec Ideal S4x1024x768 .bf16)
  (x5 : Vec Ideal S4x4096x256 .f32)
  (x6 : Vec Ideal S4x4096x256 .f32)
  (x7 : Vec Ideal S4x4096x256 .f32)
  (x8 : Vec Ideal S4x4096x256 .f32)
  (x9 : Vec Ideal S4x4096x256 .f32)
  (x10 : Vec Ideal S4x4096x256 .f32)
  (x11 : Vec Ideal S4x4096x1024 .bf16)
  (x12 : Vec Ideal S4x4096x1024 .bf16)
  (x13 : Vec Ideal S768x1024 .f32)
  (x14 : Vec Ideal S256x1024 .f32)
  (x15 : Vec Ideal S1024x1024 .f32)
  (x16 : Vec Ideal S1024 .f32)
  (x17 : Vec Ideal S1024x4096 .f32)
  (x18 : Vec Ideal S4096x1024 .f32)

/-- The four parts of the first branch, joined along the rows. -/
theorem v0_at (b : Fin 4) (s : Fin 4096) (k : Fin 768) :
    val_main_v0 (F := Ideal) x1 x2 x3 x4 (ix3 b s k) = if h : s.1 < 1024 then x1 (ix3 b ⟨s.1, h⟩ k) else
      if h : s.1 - 1024 < 1024 then x2 (ix3 b ⟨s.1 - 1024, h⟩ k) else
        if h : s.1 - 1024 - 1024 < 1024 then x3 (ix3 b ⟨s.1 - 1024 - 1024, h⟩ k) else
          x4 (ix3 b ⟨s.1 - 1024 - 1024 - 1024, by omega⟩ k) := by
  unfold val_main_v0
  pointwise

/-- The stacked log-sum-exps. -/
theorem v5_at (e : Fin 3) (b : Fin 4) (s : Fin 4096) (k : Fin 256) :
    val_main_v5 (F := Ideal) x8 x9 x10 (ix4 e b s k)
      = if _h : e.1 < 1 then x8 (ix3 b s k) else if _h : e.1 - 1 < 1 then x9 (ix3 b s k) else x10 (ix3 b s k) := by
  unfold val_main_v5 val_main_v2 val_main_v3 val_main_v4
  pointwise

/-- The stacked outputs. -/
theorem v23_at (e : Fin 3) (b : Fin 4) (s : Fin 4096) (k : Fin 256) :
    val_main_v23 (F := Ideal) x5 x6 x7 (ix4 e b s k)
      = if _h : e.1 < 1 then x5 (ix3 b s k) else if _h : e.1 - 1 < 1 then x6 (ix3 b s k) else x7 (ix3 b s k) := by
  unfold val_main_v23 val_main_v20 val_main_v21 val_main_v22
  pointwise

/-- A log-sum-exp as a natural logarithm. -/
theorem v8_at (e : Fin 3) (b : Fin 4) (s : Fin 4096) (k : Fin 256) :
    val_main_v8 (F := Ideal) x8 x9 x10 (ix4 e b s k)
      = val_main_v5 (F := Ideal) x8 x9 x10 (ix4 e b s k) * Ideal.log (Ideal.ofBits .f32 0x40000000#32) := by
  unfold val_main_v8 val_main_v7 val_main_v6 val_main_cst
  generalize val_main_v5 (F := Ideal) x8 x9 x10 = y
  pointwise

/-- The largest of the three. -/
theorem v9_at (b : Fin 4) (s : Fin 4096) (k : Fin 256) :
    val_main_v9 (F := Ideal) x8 x9 x10 (ix3 b s k)
      = Finset.fold max (Ideal.ofBits .f32 0xFF800000#32) (fun e => val_main_v8 (F := Ideal) x8 x9 x10 (ix4 e b s k)) Finset.univ := by
  unfold val_main_v9 val_main_cst_0
  generalize val_main_v8 (F := Ideal) x8 x9 x10 = y
  pointwise

/-- The shift of the exponentials. -/
theorem v11_at (b : Fin 4) (s : Fin 4096) (k : Fin 256) :
    val_main_v11 (F := Ideal) x8 x9 x10 (ix3 b s k)
      = max (Ideal.ofBits .f32 0xFF800000#32) (val_main_v9 (F := Ideal) x8 x9 x10 (ix3 b s k)) := by
  rw [val_main_v11_apply, val_main_v10_apply, val_main_cst_1_apply]
  generalize val_main_v9 (F := Ideal) x8 x9 x10 (ix3 b s k) = z
  rfl

/-- The shift, one copy for each group. -/
theorem v13_at (e : Fin 3) (b : Fin 4) (s : Fin 4096) (k : Fin 256) :
    val_main_v13 (F := Ideal) x8 x9 x10 (ix4 e b s k) = val_main_v11 (F := Ideal) x8 x9 x10 (ix3 b s k) := by
  rw [val_main_v13_apply, val_main_v12_apply]
  generalize val_main_v11 (F := Ideal) x8 x9 x10 = z
  exact congrArg z (funext fun a => match a with | ⟨0, _⟩ => rfl | ⟨1, _⟩ => rfl | ⟨2, _⟩ => rfl)

/-- The shifted exponentials. -/
theorem v15_at (e : Fin 3) (b : Fin 4) (s : Fin 4096) (k : Fin 256) :
    val_main_v15 (F := Ideal) x8 x9 x10 (ix4 e b s k)
      = Ideal.exp (val_main_v8 (F := Ideal) x8 x9 x10 (ix4 e b s k)
          - max (Ideal.ofBits .f32 0xFF800000#32) (val_main_v9 (F := Ideal) x8 x9 x10 (ix3 b s k))) := by
  rw [val_main_v15_apply, val_main_v14_apply, v13_at, v11_at]
  generalize val_main_v8 (F := Ideal) x8 x9 x10 (ix4 e b s k) = y
  generalize val_main_v9 (F := Ideal) x8 x9 x10 (ix3 b s k) = z
  rfl

/-- Their sum. -/
theorem v16_at (b : Fin 4) (s : Fin 4096) (k : Fin 256) :
    val_main_v16 (F := Ideal) x8 x9 x10 (ix3 b s k) = ∑ e : Fin 3, val_main_v15 (F := Ideal) x8 x9 x10 (ix4 e b s k) := by
  unfold val_main_v16 val_main_cst_2
  generalize val_main_v15 (F := Ideal) x8 x9 x10 = y
  pointwise

/-- The shares. -/
theorem v19_at (e : Fin 3) (b : Fin 4) (s : Fin 4096) (k : Fin 256) :
    val_main_v19 (F := Ideal) x8 x9 x10 (ix4 e b s k)
      = Ideal.div (val_main_v15 (F := Ideal) x8 x9 x10 (ix4 e b s k)) (val_main_v16 (F := Ideal) x8 x9 x10 (ix3 b s k)) := by
  unfold val_main_v19 val_main_v18 val_main_v17
  generalize val_main_v15 (F := Ideal) x8 x9 x10 = y
  generalize val_main_v16 (F := Ideal) x8 x9 x10 = z
  pointwise

/-- The groups mixed by their shares. -/
theorem v25_at (b : Fin 4) (s : Fin 4096) (k : Fin 256) :
    val_main_v25 (F := Ideal) x5 x6 x7 x8 x9 x10 (ix3 b s k)
      = ∑ e : Fin 3, val_main_v19 (F := Ideal) x8 x9 x10 (ix4 e b s k) * val_main_v23 (F := Ideal) x5 x6 x7 (ix4 e b s k) := by
  unfold val_main_v25 val_main_v24 val_main_cst_3
  generalize val_main_v19 (F := Ideal) x8 x9 x10 = y
  generalize val_main_v23 (F := Ideal) x5 x6 x7 = z
  pointwise

/-- The two branches mixed by their gates. -/
theorem v32_at (b : Fin 4) (s : Fin 4096) (n : Fin 1024) :
    val_main_v32 (F := Ideal) x1 x2 x3 x4 x5 x6 x7 x8 x9 x10 x11 x12 x13 x14 (ix3 b s n)
      = mixed (fun k => val_main_v0 (F := Ideal) x1 x2 x3 x4 (ix3 b s k)) (fun k => val_main_v25 (F := Ideal) x5 x6 x7 x8 x9 x10 (ix3 b s k))
          (fun n => x11 (ix3 b s n)) (fun n => x12 (ix3 b s n)) (fun k n => x13 (ix2 k n)) (fun k n => x14 (ix2 k n)) n := by
  unfold val_main_v32 val_main_v31 val_main_v30 val_main_v29 val_main_v28 val_main_v27 val_main_v26 val_main_v1 mixed
  generalize val_main_v0 (F := Ideal) x1 x2 x3 x4 = y
  generalize val_main_v25 (F := Ideal) x5 x6 x7 x8 x9 x10 = z
  pointwise

/-- The residual stream after the output projection. -/
theorem v34_at (b : Fin 4) (s : Fin 4096) (n : Fin 1024) :
    val_main_v34 (F := Ideal) x0 x1 x2 x3 x4 x5 x6 x7 x8 x9 x10 x11 x12 x13 x14 x15 (ix3 b s n)
      = resid (fun n => x0 (ix3 b s n)) (fun k => val_main_v32 (F := Ideal) x1 x2 x3 x4 x5 x6 x7 x8 x9 x10 x11 x12 x13 x14 (ix3 b s k)) (fun k n => x15 (ix2 k n)) n := by
  unfold val_main_v34 val_main_v33 resid
  generalize val_main_v32 (F := Ideal) x1 x2 x3 x4 x5 x6 x7 x8 x9 x10 x11 x12 x13 x14 = y
  pointwise

/-- The normalized stream. -/
theorem v47_at (b : Fin 4) (s : Fin 4096) (n : Fin 1024) :
    val_main_v47 (F := Ideal) x0 x1 x2 x3 x4 x5 x6 x7 x8 x9 x10 x11 x12 x13 x14 x15 x16 (ix3 b s n)
      = normed (fun n => val_main_v34 (F := Ideal) x0 x1 x2 x3 x4 x5 x6 x7 x8 x9 x10 x11 x12 x13 x14 x15 (ix3 b s n)) (fun n => x16 (ix1 n)) n := by
  unfold val_main_v47 val_main_v46 val_main_v45 val_main_v44 val_main_v43 val_main_v42 val_main_v41 val_main_v40 val_main_v39 val_main_v38 val_main_v37 val_main_v36 val_main_v35 val_main_cst_4 val_main_cst_5 val_main_cst_6 normed
  generalize val_main_v34 (F := Ideal) x0 x1 x2 x3 x4 x5 x6 x7 x8 x9 x10 x11 x12 x13 x14 x15 = y
  pointwise

/-- The result. -/
theorem v52_at (b : Fin 4) (s : Fin 4096) (n : Fin 1024) :
    val_main_v52 (F := Ideal) x0 x1 x2 x3 x4 x5 x6 x7 x8 x9 x10 x11 x12 x13 x14 x15 x16 x17 x18 (ix3 b s n)
      = fed (fun n => val_main_v34 (F := Ideal) x0 x1 x2 x3 x4 x5 x6 x7 x8 x9 x10 x11 x12 x13 x14 x15 (ix3 b s n)) (fun n => val_main_v47 (F := Ideal) x0 x1 x2 x3 x4 x5 x6 x7 x8 x9 x10 x11 x12 x13 x14 x15 x16 (ix3 b s n))
          (fun k f => x17 (ix2 k f)) (fun f n => x18 (ix2 f n)) n := by
  unfold val_main_v52 val_main_v51 val_main_v50 val_main_v49 val_main_v48 val_main_call0_v0 val_main_call0_cst fed hid
  generalize val_main_v34 (F := Ideal) x0 x1 x2 x3 x4 x5 x6 x7 x8 x9 x10 x11 x12 x13 x14 x15 = y
  generalize val_main_v47 (F := Ideal) x0 x1 x2 x3 x4 x5 x6 x7 x8 x9 x10 x11 x12 x13 x14 x15 x16 = z
  pointwise

end Cert.MlpRef
-- ==== Proof.Mix.lean ====
module

public import proofs.«01_k».proof.Proof.MlpSpec

@[expose] public section

set_option maxRecDepth 16384

noncomputable section

/-! The mix of the three dilated groups: dividing each share by their sum, as the reference does, and dividing the weighted sum
    once, as the kernel does, are the same where the log-sum-exps are finite. The groups' outputs may be infinite. -/

namespace Cert.Mix

open Idealize.ShloMosaic Cert.MlpSpec

theorem two_bits : Ideal.ofBits .f32 0x40000000#32 = ((2 : ℝ) : EReal) := by
  simp [Ideal.ofBits, Ideal.ieee, -EReal.coe_mul]; norm_num

theorem bot_bits : Ideal.ofBits .f32 0xFF800000#32 = ⊥ := by
  simp [Ideal.ofBits, Ideal.ieee]

theorem top_bits : Ideal.ofBits .f32 0x7F800000#32 = ⊤ := by
  simp [Ideal.ofBits, Ideal.ieee]

theorem log_two : Ideal.log (Ideal.ofBits .f32 0x40000000#32) = ((Real.log 2 : ℝ) : EReal) := by
  rw [two_bits, Ideal.log_coe, if_neg (by norm_num)]

/-- The larger of two reals, as an extended real. -/
theorem coe_max2 (a b : ℝ) : ((max a b : ℝ) : EReal) = max (a : EReal) b := EReal.coe_strictMono.monotone.map_max

/-- The largest of three, as the fold the reference takes. -/
theorem fold_max (f : Fin 3 → EReal) : Finset.fold max ⊥ f Finset.univ = max (max (f 0) (f 1)) (f 2) := by
  have : (Finset.univ : Finset (Fin 3)) = {0, 1, 2} := by decide
  rw [this, Finset.fold_insert (by decide), Finset.fold_insert (by decide), Finset.fold_singleton]
  rw [max_bot_right, max_assoc]

/-- A share of the reference, before the division: the exponential of the difference of natural logarithms. -/
def w (a0 a1 a2 a : ℝ) : ℝ := Real.exp ((a - max (max a0 a1) a2) * Real.log 2)

theorem w_pos (a0 a1 a2 a : ℝ) : 0 < w a0 a1 a2 a := Real.exp_pos _

theorem exp2_eq (a0 a1 a2 a : ℝ) : shareExp a0 a1 a2 a = (w a0 a1 a2 a : EReal) := by
  unfold shareExp w
  rw [← coe_max2, ← coe_max2, ← EReal.coe_sub, Ideal.exp2_coe]
  congr 1
  show (2 : ℝ) ^ (a - max (max a0 a1) a2) = _
  rw [Real.rpow_def_of_pos (by norm_num), mul_comm]

theorem exp_eq (a0 a1 a2 a : ℝ) :
    Ideal.exp ((a : EReal) * (Real.log 2 : ℝ) - max ⊥ (max (max ((a0 : EReal) * (Real.log 2 : ℝ)) ((a1 : EReal) * (Real.log 2 : ℝ)))
      ((a2 : EReal) * (Real.log 2 : ℝ)))) = (w a0 a1 a2 a : EReal) := by
  have hl : 0 ≤ Real.log 2 := Real.log_nonneg (by norm_num)
  rw [max_bot_left, ← EReal.coe_mul, ← EReal.coe_mul, ← EReal.coe_mul, ← EReal.coe_mul, ← coe_max2, ← coe_max2,
    ← EReal.coe_sub, Ideal.exp_coe, ← max_mul_of_nonneg _ _ hl, ← max_mul_of_nonneg _ _ hl, ← sub_mul]
  rfl

/-- The division of a weighted sum by a positive real, term by term. -/
theorem div_sum (w0 w1 w2 : ℝ) (h0 : 0 < w0) (h1 : 0 < w1) (h2 : 0 < w2) (o0 o1 o2 : EReal) :
    Ideal.div (w0 : EReal) ((w0 : EReal) + w1 + w2) * o0 + Ideal.div (w1 : EReal) ((w0 : EReal) + w1 + w2) * o1
        + Ideal.div (w2 : EReal) ((w0 : EReal) + w1 + w2) * o2
      = Ideal.div ((w0 : EReal) * o0 + w1 * o1 + w2 * o2) ((w0 : EReal) + w1 + w2) := by
  have hD : (w0 + w1 + w2 : ℝ) ≠ 0 := by positivity
  have hp : (0 : EReal) ≤ ((1 / (w0 + w1 + w2) : ℝ) : EReal) := EReal.coe_nonneg.2 (by positivity)
  have ht : ((1 / (w0 + w1 + w2) : ℝ) : EReal) ≠ ⊤ := EReal.coe_ne_top _
  rw [← EReal.coe_add, ← EReal.coe_add, Ideal.div_coe hD, Ideal.div_coe hD, Ideal.div_coe hD, Ideal.div_coe hD]
  generalize ((1 / (w0 + w1 + w2) : ℝ) : EReal) = d at hp ht
  rw [mul_comm _ d, mul_comm _ d, mul_comm _ d, mul_comm _ d, EReal.left_distrib_of_nonneg_of_ne_top hp ht,
    EReal.left_distrib_of_nonneg_of_ne_top hp ht, mul_assoc, mul_assoc, mul_assoc]

end Cert.Mix
-- ==== Proof.MlpRefRow.lean ====
module

public import proofs.«01_k».proof.Proof.MlpRef
public import proofs.«01_k».proof.Proof.Mix

@[expose] public section

set_option maxRecDepth 16384

noncomputable section

/-! The reference's result in the closed form of the kernel's, where the log-sum-exps are finite. -/

namespace Cert.MlpRefRow

open Cert.MlpReferenceIdeal Cert.MlpReferenceIdeal.Gen Cert.MlpReferenceIdeal.Read Idealize.ShloMosaic Cert.MlpSpec Cert.MlpRef Cert.Mix

variable
  (x0 : Vec Ideal S4x4096x1024 .f32)
  (x1 : Vec Ideal S4x1024x768 .bf16)
  (x2 : Vec Ideal S4x1024x768 .bf16)
  (x3 : Vec Ideal S4x1024x768 .bf16)
  (x4 : Vec Ideal S4x1024x768 .bf16)
  (x5 : Vec Ideal S4x4096x256 .f32)
  (x6 : Vec Ideal S4x4096x256 .f32)
  (x7 : Vec Ideal S4x4096x256 .f32)
  (x8 : Vec Ideal S4x4096x256 .f32)
  (x9 : Vec Ideal S4x4096x256 .f32)
  (x10 : Vec Ideal S4x4096x256 .f32)
  (x11 : Vec Ideal S4x4096x1024 .bf16)
  (x12 : Vec Ideal S4x4096x1024 .bf16)
  (x13 : Vec Ideal S768x1024 .f32)
  (x14 : Vec Ideal S256x1024 .f32)
  (x15 : Vec Ideal S1024x1024 .f32)
  (x16 : Vec Ideal S1024 .f32)
  (x17 : Vec Ideal S1024x4096 .f32)
  (x18 : Vec Ideal S4096x1024 .f32)

/-- The first branch at a row of the sequence: part `s / 1024` at row `s % 1024`. -/
theorem part_at (b : Fin 4) (s : Fin 4096) (k : Fin 768) :
    val_main_v0 (F := Ideal) x1 x2 x3 x4 (ix3 b s k)
      = if s.1 / 1024 = 3 then x4 (ix3 b ⟨s.1 % 1024, Nat.mod_lt _ (by decide)⟩ k) else
        if s.1 / 1024 = 2 then x3 (ix3 b ⟨s.1 % 1024, Nat.mod_lt _ (by decide)⟩ k) else
        if s.1 / 1024 = 1 then x2 (ix3 b ⟨s.1 % 1024, Nat.mod_lt _ (by decide)⟩ k) else
          x1 (ix3 b ⟨s.1 % 1024, Nat.mod_lt _ (by decide)⟩ k) := by
  rw [v0_at]
  have hs := s.isLt
  by_cases c0 : s.1 < 1024
  · rw [dif_pos c0, if_neg (by omega), if_neg (by omega), if_neg (by omega)]
    exact congrArg x1 (congrArg (ix3 b · k) (Fin.ext (by dsimp only; omega)))
  rw [dif_neg c0]
  by_cases c1 : s.1 - 1024 < 1024
  · rw [dif_pos c1, if_neg (by omega), if_neg (by omega), if_pos (by omega)]
    exact congrArg x2 (congrArg (ix3 b · k) (Fin.ext (by dsimp only; omega)))
  rw [dif_neg c1]
  by_cases c2 : s.1 - 1024 - 1024 < 1024
  · rw [dif_pos c2, if_neg (by omega), if_pos (by omega)]
    exact congrArg x3 (congrArg (ix3 b · k) (Fin.ext (by dsimp only; omega)))
  rw [dif_neg c2, if_pos (by omega)]
  exact congrArg x4 (congrArg (ix3 b · k) (Fin.ext (by dsimp only; omega)))

/-- The mix of the three groups. -/
theorem groups_at (b : Fin 4) (s : Fin 4096) (k : Fin 256) (h8 : ∃ r : ℝ, x8 (ix3 b s k) = r)
    (h9 : ∃ r : ℝ, x9 (ix3 b s k) = r) (h10 : ∃ r : ℝ, x10 (ix3 b s k) = r) :
    val_main_v25 (F := Ideal) x5 x6 x7 x8 x9 x10 (ix3 b s k)
      = mix3 (x8 (ix3 b s k)) (x9 (ix3 b s k)) (x10 (ix3 b s k)) (x5 (ix3 b s k)) (x6 (ix3 b s k)) (x7 (ix3 b s k)) := by
  obtain ⟨r0, h8⟩ := h8
  obtain ⟨r1, h9⟩ := h9
  obtain ⟨r2, h10⟩ := h10
  have e0 : val_main_v8 (F := Ideal) x8 x9 x10 (ix4 0 b s k) = (r0 : EReal) * (Real.log 2 : ℝ) := by
    rw [v8_at, v5_at, log_two, ← h8]; rfl
  have e1 : val_main_v8 (F := Ideal) x8 x9 x10 (ix4 1 b s k) = (r1 : EReal) * (Real.log 2 : ℝ) := by
    rw [v8_at, v5_at, log_two, ← h9]; rfl
  have e2 : val_main_v8 (F := Ideal) x8 x9 x10 (ix4 2 b s k) = (r2 : EReal) * (Real.log 2 : ℝ) := by
    rw [v8_at, v5_at, log_two, ← h10]; rfl
  have g0 : val_main_v23 (F := Ideal) x5 x6 x7 (ix4 0 b s k) = x5 (ix3 b s k) := by rw [v23_at]; rfl
  have g1 : val_main_v23 (F := Ideal) x5 x6 x7 (ix4 1 b s k) = x6 (ix3 b s k) := by rw [v23_at]; rfl
  have g2 : val_main_v23 (F := Ideal) x5 x6 x7 (ix4 2 b s k) = x7 (ix3 b s k) := by rw [v23_at]; rfl
  have p0 : val_main_v15 (F := Ideal) x8 x9 x10 (ix4 0 b s k) = (w r0 r1 r2 r0 : EReal) := by
    rw [v15_at, v9_at, bot_bits, fold_max, e0, e1, e2, exp_eq]
  have p1 : val_main_v15 (F := Ideal) x8 x9 x10 (ix4 1 b s k) = (w r0 r1 r2 r1 : EReal) := by
    rw [v15_at, v9_at, bot_bits, fold_max, e0, e1, e2, exp_eq]
  have p2 : val_main_v15 (F := Ideal) x8 x9 x10 (ix4 2 b s k) = (w r0 r1 r2 r2 : EReal) := by
    rw [v15_at, v9_at, bot_bits, fold_max, e0, e1, e2, exp_eq]
  rw [v25_at, Fin.sum_univ_three, v19_at, v19_at, v19_at, v16_at, Fin.sum_univ_three, p0, p1, p2, g0, g1, g2, h8, h9, h10]
  unfold mix3
  rw [exp2_eq, exp2_eq, exp2_eq]
  exact div_sum _ _ _ (w_pos _ _ _ _) (w_pos _ _ _ _) (w_pos _ _ _ _) _ _ _

/-- The whole result at an index. -/
theorem row_at (b : Fin 4) (s : Fin 4096) (n : Fin 1024) :
    val_main_v52 (F := Ideal) x0 x1 x2 x3 x4 x5 x6 x7 x8 x9 x10 x11 x12 x13 x14 x15 x16 x17 x18 (ix3 b s n)
      = row (fun n => x0 (ix3 b s n)) (fun k => val_main_v0 (F := Ideal) x1 x2 x3 x4 (ix3 b s k)) (fun k => val_main_v25 (F := Ideal) x5 x6 x7 x8 x9 x10 (ix3 b s k))
          (fun n => x11 (ix3 b s n)) (fun n => x12 (ix3 b s n)) (fun n => x16 (ix1 n))
          (fun k n => x13 (ix2 k n)) (fun k n => x14 (ix2 k n)) (fun k n => x15 (ix2 k n))
          (fun k f => x17 (ix2 k f)) (fun f n => x18 (ix2 f n)) n := by
  rw [v52_at]
  simp only [v47_at, v34_at, v32_at]
  rfl

end Cert.MlpRefRow
-- ==== Proof.MlpPre.lean ====
module

public import proofs.«01_k».proof.Defs
public import proofs.«01_k».proof.Proof.Mix
public import Idealize.ShloMosaic.Lib.Pointwise
public import Idealize.ShloMosaic.Lib.ReduceAll
public import Idealize.ShloMosaic.Lib.WordArith

@[expose] public section

set_option maxRecDepth 16384

noncomputable section

/-! What the precondition says: every log-sum-exp is a real number. -/

namespace Cert.MlpPre

open Idealize.ShloMosaic

theorem andi_one (a b : BitVec 1) : IntOp.andi a b = 1#1 ↔ a = 1#1 ∧ b = 1#1 := by revert a b; decide

/-- An extended real strictly between the infinities is a real. -/
theorem real_of (x : EReal) (h : IntOp.andi (FloatOps.cmpf (F := Ideal) (φ := .f32) .ogt x (Ideal.ofBits .f32 0xFF800000#32))
    (FloatOps.cmpf (F := Ideal) (φ := .f32) .olt x (Ideal.ofBits .f32 0x7F800000#32)) = 1#1) : ∃ r : ℝ, x = r := by
  rw [andi_one, Cert.Mix.bot_bits, Cert.Mix.top_bits] at h
  induction x with
  | bot => exact absurd h.1 (by simp [FloatOps.cmpf, Ideal.cmp])
  | coe r => exact ⟨r, rfl⟩
  | top => exact absurd h.2 (by simp [FloatOps.cmpf, Ideal.cmp])

/-- What the precondition, met, says of the three log-sum-exps. -/
theorem finite [Cert.Pre_lse_finite.Facts]
    (x0 : FVec Ideal Cert.Pre_lse_finite.S4x4096x1024 .f32)
    (x1 : FVec Ideal Cert.Pre_lse_finite.S4x1024x768 .bf16)
    (x2 : FVec Ideal Cert.Pre_lse_finite.S4x1024x768 .bf16)
    (x3 : FVec Ideal Cert.Pre_lse_finite.S4x1024x768 .bf16)
    (x4 : FVec Ideal Cert.Pre_lse_finite.S4x1024x768 .bf16)
    (x5 : FVec Ideal Cert.Pre_lse_finite.S4x4096x256 .f32)
    (x6 : FVec Ideal Cert.Pre_lse_finite.S4x4096x256 .f32)
    (x7 : FVec Ideal Cert.Pre_lse_finite.S4x4096x256 .f32)
    (x8 : FVec Ideal Cert.Pre_lse_finite.S4x4096x256 .f32)
    (x9 : FVec Ideal Cert.Pre_lse_finite.S4x4096x256 .f32)
    (x10 : FVec Ideal Cert.Pre_lse_finite.S4x4096x256 .f32)
    (x11 : FVec Ideal Cert.Pre_lse_finite.S4x4096x1024 .bf16)
    (x12 : FVec Ideal Cert.Pre_lse_finite.S4x4096x1024 .bf16)
    (x13 : FVec Ideal Cert.Pre_lse_finite.S768x1024 .f32)
    (x14 : FVec Ideal Cert.Pre_lse_finite.S256x1024 .f32)
    (x15 : FVec Ideal Cert.Pre_lse_finite.S1024x1024 .f32)
    (x16 : FVec Ideal Cert.Pre_lse_finite.S1024 .f32)
    (x17 : FVec Ideal Cert.Pre_lse_finite.S1024x4096 .f32)
    (x18 : FVec Ideal Cert.Pre_lse_finite.S4096x1024 .f32)
    (h : Cert.Pre_lse_finite.fn (F := Ideal) x0 x1 x2 x3 x4 x5 x6 x7 x8 x9 x10 x11 x12 x13 x14 x15 x16 x17 x18 = fun _ => 1#1)
    (i : Cert.Pre_lse_finite.S4x4096x256.Idx) :
    (∃ r : ℝ, x8 i = r) ∧ (∃ r : ℝ, x9 i = r) ∧ (∃ r : ℝ, x10 i = r) := by
  haveI : Subsingleton Cert.Pre_lse_finite.S_.Idx := ⟨fun _ _ => funext fun a => a.elim0⟩
  have h := congrFun h ix0
  unfold Cert.Pre_lse_finite.fn Cert.Pre_lse_finite.fn_part1 at h
  dsimp only at h
  obtain ⟨h12, h10⟩ := (andi_one _ _).1 h
  obtain ⟨h8, h9⟩ := (andi_one _ _).1 h12
  refine ⟨real_of _ ?_, real_of _ ?_, real_of _ ?_⟩
  · exact Host.reduce_andi_all _ _ _ _ _ h8 i
  · exact Host.reduce_andi_all _ _ _ _ _ h9 i
  · exact Host.reduce_andi_all _ _ _ _ _ h10 i

end Cert.MlpPre
-- ==== Proof.MlpClaim.lean ====
module

public import proofs.«01_k».proof.Defs
public import proofs.«01_k».proof.Proof.Gen.MlpReferenceIdeal.Run
public import proofs.«01_k».proof.Proof.MlpKer
public import proofs.«01_k».proof.Proof.MlpRefRow
public import proofs.«01_k».proof.Proof.MlpPre

@[expose] public section

set_option maxRecDepth 16384

noncomputable section

/-! The value claim of the output projection and feed-forward call. -/

namespace Cert.MlpClaim

open Cert.MlpReferenceIdeal.Read Idealize.ShloMosaic Idealize.ShloMosaic.TcCoe Cert.MlpSpec Cert.MlpReads Cert.MlpKer

variable (m : (ℓ : Loc Cert.MlpKernelIdeal.nD Cert.MlpKernelIdeal.τ Cert.MlpKernelIdeal.sig) → Buf (Elt Ideal) ℓ)

/-- The reference's result is the kernel's closed form. -/
theorem value (c : Dev Cert.MlpKernelIdeal.nD)
    (hfin : ∀ i, (∃ r : ℝ, a8 m c i = r) ∧ (∃ r : ℝ, a9 m c i = r) ∧ (∃ r : ℝ, a10 m c i = r)) :
    val_main_v52 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) = G m c := by
  funext i
  obtain ⟨b, s, n, rfl⟩ : ∃ (b : Fin 4) (s : Fin 4096) (n : Fin 1024), i = ix3 b s n := ⟨i 0, i 1, i 2, (ix3_eta i).symm⟩
  rw [Cert.MlpRefRow.row_at]
  have hg : ∀ k : Fin 256, val_main_v25 (F := Ideal) (a5 m c) (a6 m c) (a7 m c) (a8 m c) (a9 m c) (a10 m c) (ix3 b s k)
      = groups m c b s k := fun k =>
    Cert.MlpRefRow.groups_at _ _ _ _ _ _ b s k (hfin _).1 (hfin _).2.1 (hfin _).2.2
  have hp : ∀ k : Fin 768, val_main_v0 (F := Ideal) (a1 m c) (a2 m c) (a3 m c) (a4 m c) (ix3 b s k) = part m c b s k := fun k =>
    Cert.MlpRefRow.part_at _ _ _ _ b s k
  simp only [hg, hp]
  rfl

/-- Both programs end with the same result array. -/
theorem algebraic [Cert.Pre_lse_finite.Facts] : Cert.algebraic_MlpKernelIdeal_MlpReferenceIdeal_pre_lse_finite :=
  fun m ρ m' ρ' hpre hag => by
  have key (c : Dev Cert.MlpKernelIdeal.nD) : Cert.MlpReferenceIdeal.Value.res_main_v52 m' c = G m c := by
    rw [Cert.MlpReferenceIdeal.Read.val_main_v52_eq]
    obtain ⟨h0, h1, h2, h3, h4, h5, h6, h7, h8, h9, h10, h11, h12, h13, h14, h15, h16, h17, h18⟩ := hag c
    rw [h0, h1, h2, h3, h4, h5, h6, h7, h8, h9, h10, h11, h12, h13, h14, h15, h16, h17, h18]
    exact value m c fun i => Cert.MlpPre.finite _ _ _ _ _ _ _ _ _ _ _ _ _ _ _ _ _ _ _ (hpre c) i
  exact ⟨fun c => G m c,
    (θ_run Cert.MlpKernelIdeal.defs _ _).mono (fun _ h c => ⟨(h c).1.trans (final m c), (h c).2⟩)
      (Cert.MlpKernelIdeal.Value.run_blocks m ρ),
    (θ_run Cert.MlpReferenceIdeal.defs _ _).mono (fun _ h c => ⟨(h c).1.trans (key c), (h c).2⟩)
      (Cert.MlpReferenceIdeal.Value.run m' ρ')⟩

end Cert.MlpClaim
-- ==== Proof.InSpec.lean ====
module

public import Idealize.ShloMosaic.Lib.Pointwise

@[expose] public section

set_option maxRecDepth 16384

noncomputable section

/-! The mathematics of the input projection at one row, over the extended reals: the normalized row, its projection, the
    normalization of each head's 64 columns, and the rotation by position. Columns are natural numbers here. -/

namespace Cert.InSpec

open Idealize.ShloMosaic

/-- The share of one column in its head's mean. -/
abbrev share : EReal := Ideal.ofBits .f32 0x3C800000#32
/-- The small number added under the root. -/
abbrev eps : EReal := Ideal.ofBits .f32 0x358637BD#32

theorem share_eq : share = ((1 / 64 : ℝ) : EReal) := by
  simp [share, Ideal.ofBits, Ideal.ieee, -EReal.coe_mul]; norm_num

theorem sixtyfour : Ideal.ofBits .f32 0x42800000#32 = ((64 : ℝ) : EReal) := by
  simp [Ideal.ofBits, Ideal.ieee, -EReal.coe_mul]; norm_num

/-- The root-mean-square normalization of a row with its gain. -/
def normed (x g : Fin 1024 → EReal) (n : Fin 1024) : EReal :=
  x n * Ideal.rsqrt (Ideal.div (∑ k, x k * x k) (Ideal.ofBits .f32 0x44800000#32) + eps) * g n

/-- A projected column. -/
def proj (h : Fin 1024 → EReal) (w : Fin 1024 → Nat → EReal) (n : Nat) : EReal := ∑ k, h k * w k n

/-- The mean of the squares over column `n`'s head. -/
def msq (y : Nat → EReal) (n : Nat) : EReal :=
  (∑ e : Fin 64, y (64 * (n / 64) + e.1) * y (64 * (n / 64) + e.1)) * share

/-- A column normalized within its head, with its gain. -/
def unit (y g : Nat → EReal) (n : Nat) : EReal := y n * Ideal.rsqrt (msq y n + eps) * g n

/-- A column rotated with its partner 32 columns away in the same head; the tables have 128 columns. -/
def turn (v c s : Nat → EReal) (n : Nat) : EReal :=
  v n * c (n % 128) + (if n % 64 < 32 then v (n + 32) else v (n - 32)) * s (n % 128)

theorem sq_nonneg (x : EReal) : 0 ≤ x * x := by
  rcases le_total 0 x with h | h
  · exact mul_nonneg h h
  · rw [← neg_mul_neg]
    have : 0 ≤ -x := EReal.neg_nonneg.2 h
    exact mul_nonneg this this

/-- A common factor leaves a sum of non-negative terms. -/
theorem sum_mul_of_nonneg {n : Nat} (f : Fin n → EReal) (c : EReal) (hf : ∀ i, 0 ≤ f i) :
    ∑ i, f i * c = (∑ i, f i) * c := by
  induction n with
  | zero => simp
  | succ n ih =>
    rw [Fin.sum_univ_succ, Fin.sum_univ_succ, ih _ fun i => hf i.succ,
      EReal.right_distrib_of_nonneg (hf 0) (Finset.sum_nonneg fun i _ => hf i.succ)]

/-- A sum over a block of whole heads against the matrix that holds the share where two columns lie in one head, is the
    head's own sum. -/
theorem head_sum {q : Nat} (f : Nat → EReal) (hf : ∀ n, 0 ≤ f n) (l : Fin (64 * q)) :
    ∑ k : Fin (64 * q), f k.1 * (if k.1 / 64 = l.1 / 64 then share else 0)
      = (∑ e : Fin 64, f (64 * (l.1 / 64) + e.1)) * share := by
  have hl : l.1 / 64 < q := Nat.div_lt_of_lt_mul l.2
  rw [← sum_mul_of_nonneg _ _ fun e => hf _]
  symm
  refine Finset.sum_of_injOn (fun e : Fin 64 => (⟨64 * (l.1 / 64) + e.1, by omega⟩ : Fin (64 * q))) ?_ ?_ ?_ ?_
  · intro a _ b _ h
    have : 64 * (l.1 / 64) + a.1 = 64 * (l.1 / 64) + b.1 := congrArg Fin.val h
    exact Fin.ext (by omega)
  · intro a _
    exact Finset.mem_coe.2 (Finset.mem_univ _)
  · intro k _ hk
    rw [if_neg fun e => hk ⟨⟨k.1 % 64, Nat.mod_lt _ (by decide)⟩, Finset.mem_coe.2 (Finset.mem_univ _), Fin.ext (by
      show 64 * (l.1 / 64) + k.1 % 64 = k.1
      omega)⟩, mul_zero]
  · intro e _
    rw [if_pos (by show (64 * (l.1 / 64) + e.1) / 64 = _; omega)]

end Cert.InSpec
-- ==== Proof.InPay.lean ====
module

public import proofs.«01_k».proof.Proof.Gen.InKernelIdeal.Skeleton
public import proofs.«01_k».proof.Proof.InSpec
public import Idealize.ShloMosaic.Lib.Pointwise
public import Idealize.ShloMosaic.Lib.Pipeline.Value
public import Idealize.ShloMosaic.Lib.KernelVsHost

@[expose] public section

set_option maxRecDepth 16384

noncomputable section

/-! The values the input projection's body computes for one block of rows, each at an index, as functions of one row and
    one column. -/

namespace Cert.InPay

open Cert.InKernelIdeal Cert.InKernelIdeal.Gen Idealize.ShloMosaic Cert.InSpec

/-- The normalized rows. -/
theorem rows_apply (x : Vec Ideal S1x512x1024 .f32) (g : Vec Ideal S1x1024 .f32) (r : Fin 512) (n : Fin 1024) :
    k0_pay2 x g (ix2 r n) = normed (fun n => x (ix3 0 r n)) (fun n => g (ix2 0 n)) n := by
  pointwise [k0_pay2, normed]

/-- The lanes of a head's first half. -/
theorem mask_apply (r : Fin 512) (l : Fin 128) : k0_pay3 (ix2 r l) = if l.1 % 64 < 32 then 1#1 else 0#1 := by
  pointwise [k0_pay3]
  fin_cases l <;> rfl

/-- A block of 256 projected columns. -/
theorem wide_apply (h : FVec Ideal S512x1024 .bf16) (w : Vec Ideal S1024x256 .bf16) (W : Fin 1024 → Nat → EReal) (off : Nat)
    (hw : ∀ k (j : Fin 256), w (ix2 k j) = W k (off + j.1)) (r : Fin 512) (j : Fin 256) :
    k0_pay7 h w (ix2 r j) = proj (fun k => h (ix2 r k)) W (off + j.1) := by
  pointwise [k0_pay7, proj]
  simp only [hw]

/-- A block of 128 projected columns. -/
theorem narrow_apply (h : FVec Ideal S512x1024 .bf16) (w : Vec Ideal S1024x128 .bf16) (W : Fin 1024 → Nat → EReal) (off : Nat)
    (hw : ∀ k (j : Fin 128), w (ix2 k j) = W k (off + j.1)) (r : Fin 512) (j : Fin 128) :
    k0_pay62 h w (ix2 r j) = proj (fun k => h (ix2 r k)) W (off + j.1) := by
  pointwise [k0_pay62, proj]
  simp only [hw]

/-- The transposed projection. -/
theorem trans_apply (h : FVec Ideal S512x1024 .bf16) (w : Vec Ideal S1024x384 .bf16) (W : Fin 1024 → Nat → EReal) (off : Nat)
    (hw : ∀ k (j : Fin 384), w (ix2 k j) = W k (off + j.1)) (i : Fin 384) (r : Fin 512) :
    k0_pay125 h w (ix2 i r) = proj (fun k => h (ix2 r k)) W (off + i.1) := by
  pointwise [k0_pay125, proj]
  simp only [hw, mul_comm]

/-- Lanes taken from a block of 256 columns. -/
theorem lanes_apply (e : Nat) (v : FVec Ideal S512x256 .f32) (hs : S512x256.Slices ![0, e] S512x128) (r : Fin 512)
    (l : Fin 128) (he : e + l.1 < 256) : extractStridedSlice S512x128 ![0, e] v hs (ix2 r l) = v (ix2 r ⟨e + l.1, he⟩) :=
  extractStridedSlice_apply _ v hs _ _ fun a => by
    match a with
    | ⟨0, _⟩ => exact (Nat.zero_add _).symm
    | ⟨1, _⟩ => rfl

/-- A head's lanes taken from a block of 128 columns. -/
theorem half_apply (e : Nat) (v : FVec Ideal S512x128 .f32) (hs : S512x128.Slices ![0, e] S512x64) (r : Fin 512)
    (d : Fin 64) (he : e + d.1 < 128) : extractStridedSlice S512x64 ![0, e] v hs (ix2 r d) = v (ix2 r ⟨e + d.1, he⟩) :=
  extractStridedSlice_apply _ v hs _ _ fun a => by
    match a with
    | ⟨0, _⟩ => exact (Nat.zero_add _).symm
    | ⟨1, _⟩ => rfl

/-- A group's rows taken from the transposed projection. -/
theorem group_apply (e : Nat) (v : FVec Ideal S384x512 .f32) (hs : S384x512.Slices ![e, 0] S64x512) (d : Fin 64)
    (r : Fin 512) (he : e + d.1 < 384) : extractStridedSlice S64x512 ![e, 0] v hs (ix2 d r) = v (ix2 ⟨e + d.1, he⟩ r) :=
  extractStridedSlice_apply _ v hs _ _ fun a => by
    match a with
    | ⟨0, _⟩ => rfl
    | ⟨1, _⟩ => exact (Nat.zero_add _).symm

theorem cast_dense {φ : FTy} (v : FVec Ideal S512x128 φ) (h : S512x128.ShapeCasts S1x512x128) (r : Fin 512) (l : Fin 128) :
    shapeCast S1x512x128 v h (ix3 0 r l) = v (ix2 r l) := by
  pointwise

theorem cast_head {φ : FTy} (v : FVec Ideal S512x64 φ) (h : S512x64.ShapeCasts S1x1x512x64) (r : Fin 512) (d : Fin 64) :
    shapeCast S1x1x512x64 v h (ix4 0 0 r d) = v (ix2 r d) := by
  pointwise

theorem cast_group {φ : FTy} (v : FVec Ideal S64x512 φ) (h : S64x512.ShapeCasts S1x1x64x512) (d : Fin 64) (r : Fin 512) :
    shapeCast S1x1x64x512 v h (ix4 0 0 d r) = v (ix2 d r) := by
  pointwise

theorem cast_ones {φ : FTy} (v : FVec Ideal S16x512 φ) (h : S16x512.ShapeCasts S1x1x16x512) (d : Fin 16) (r : Fin 512) :
    shapeCast S1x1x16x512 v h (ix4 0 0 d r) = v (ix2 d r) := by
  pointwise

/-- A block of 256 columns normalized head by head. -/
theorem unit_wide (bd : FVec Ideal S256x256 .bf16) (y : FVec Ideal S512x256 .f32) (g : Vec Ideal S1x256 .f32)
    (Y Gn : Nat → EReal) (off : Nat) (r : Fin 512)
    (hbd : ∀ k l : Fin 256, bd (ix2 k l) = if k.1 / 64 = l.1 / 64 then share else 0) (ho : 64 * (off / 64) = off)
    (hy : ∀ j : Fin 256, y (ix2 r j) = Y (off + j.1)) (hg : ∀ j : Fin 256, g (ix2 0 j) = Gn (off + j.1)) (j : Fin 256) :
    k0_pay16 bd y g (ix2 r j) = unit Y Gn (off + j.1) := by
  have e : k0_pay16 bd y g (ix2 r j)
      = y (ix2 r j) * Ideal.rsqrt ((∑ k : Fin 256, y (ix2 r k) * y (ix2 r k) * bd (ix2 k j)) + eps) * g (ix2 0 j) := by
    pointwise [k0_pay16]
  rw [e]
  simp only [hy, hg, hbd]
  unfold unit msq
  rw [head_sum (q := 4) (fun n => Y (off + n) * Y (off + n)) (fun n => sq_nonneg _) j]
  have : ∀ e : Nat, off + (64 * (j.1 / 64) + e) = 64 * ((off + j.1) / 64) + e := fun e => by omega
  simp only [this]

/-- A block of 128 columns normalized head by head. -/
theorem unit_narrow (bd : FVec Ideal S256x256 .bf16) (y : FVec Ideal S512x128 .f32) (g : Vec Ideal S1x128 .f32)
    (Y Gn : Nat → EReal) (off : Nat) (r : Fin 512)
    (hbd : ∀ k l : Fin 256, bd (ix2 k l) = if k.1 / 64 = l.1 / 64 then share else 0) (ho : 64 * (off / 64) = off)
    (hy : ∀ j : Fin 128, y (ix2 r j) = Y (off + j.1)) (hg : ∀ j : Fin 128, g (ix2 0 j) = Gn (off + j.1)) (j : Fin 128) :
    mulf (mulf y (k0_pay72 bd y)) (broadcastTo S512x128 (shapeCast S1x128 g shapeCasts_S1x128_S1x128)
      broadcasts_S1x128_S512x128) (ix2 r j) = unit Y Gn (off + j.1) := by
  have e : mulf (mulf y (k0_pay72 bd y)) (broadcastTo S512x128 (shapeCast S1x128 g shapeCasts_S1x128_S1x128)
      broadcasts_S1x128_S512x128) (ix2 r j)
      = y (ix2 r j) * Ideal.rsqrt ((∑ k : Fin 128, y (ix2 r k) * y (ix2 r k)
        * bd (ix2 ⟨k.1, by omega⟩ ⟨j.1, by omega⟩)) + eps) * g (ix2 0 j) := by
    pointwise [k0_pay72]
  rw [e]
  simp only [hy, hg, hbd]
  unfold unit msq
  rw [head_sum (q := 2) (fun n => Y (off + n) * Y (off + n)) (fun n => sq_nonneg _) j]
  have : ∀ e : Nat, off + (64 * (j.1 / 64) + e) = 64 * ((off + j.1) / 64) + e := fun e => by omega
  simp only [this]

/-- The rotation of 128 columns, at a row and a lane. -/
theorem turn_apply (c s v : FVec Ideal S512x128 .f32) (h1 h2) (V C S : Nat → EReal) (off : Nat) (r : Fin 512)
    (ho : 128 * (off / 128) = off) (hv : ∀ l : Fin 128, v (ix2 r l) = V (off + l.1))
    (hc : ∀ l : Fin 128, c (ix2 r l) = C l.1) (hs : ∀ l : Fin 128, s (ix2 r l) = S l.1) (l : Fin 128) :
    addf (mulf v c) (mulf (select k0_pay3 (dynamicRotate 1 96#32 none v h1) (dynamicRotate 1 32#32 none v h2)) s) (ix2 r l)
      = turn V C S (off + l.1) := by
  have e1 : dynamicRotate 1 96#32 none v h1 (ix2 r l) = v (ix2 r ⟨(l.1 + 32) % 128, Nat.mod_lt _ (by decide)⟩) :=
    dynamicRotate_apply (1 : Fin 2) _ v h1 _ _ fun b => by
      match b with
      | ⟨0, _⟩ => rfl
      | ⟨1, _⟩ => show (l.1 + 32) % 128 = (l.1 + 128 - 96 % 128) % 128; omega
  have e2 : dynamicRotate 1 32#32 none v h2 (ix2 r l) = v (ix2 r ⟨(l.1 + 96) % 128, Nat.mod_lt _ (by decide)⟩) :=
    dynamicRotate_apply (1 : Fin 2) _ v h2 _ _ fun b => by
      match b with
      | ⟨0, _⟩ => rfl
      | ⟨1, _⟩ => show (l.1 + 96) % 128 = (l.1 + 128 - 32 % 128) % 128; omega
  show v (ix2 r l) * c (ix2 r l) + Scalar.select (k0_pay3 (ix2 r l)) (dynamicRotate 1 96#32 none v h1 (ix2 r l))
    (dynamicRotate 1 32#32 none v h2 (ix2 r l)) * s (ix2 r l) = _
  rw [e1, e2, mask_apply, hv, hc, hs, hv, hv]
  unfold turn
  have a1 : (off + l.1) % 128 = l.1 := by omega
  have a2 : (off + l.1) % 64 = l.1 % 64 := by omega
  rw [a1, a2]
  dsimp only
  by_cases h : l.1 % 64 < 32
  · have a3 : off + (l.1 + 32) % 128 = off + l.1 + 32 := by omega
    rw [if_pos h, if_pos h, a3]; rfl
  · have a3 : off + (l.1 + 96) % 128 = off + l.1 - 32 := by omega
    rw [if_neg h, if_neg h, a3]; rfl

end Cert.InPay
-- ==== Proof.InBlk.lean ====
module

public import proofs.«01_k».proof.Proof.Gen.InKernelIdeal.Frame
public import proofs.«01_k».proof.Proof.InPay
public import Idealize.ShloMosaic.Lib.Pipeline.ValueKit.Tiles

@[expose] public section

set_option maxRecDepth 16384

noncomputable section

/-! What the input projection's body stores, piece by piece, as one function of the row and the column. The body loads the
    weights, the gains and the tables in pieces; a piece's offset enters each lemma as a variable. -/

namespace Cert.InBlk

open Cert.InKernelIdeal Cert.InKernelIdeal.Gen Idealize.ShloMosaic Idealize.ShloMosaic.TcCoe Cert.InSpec Cert.InPay

/-! ## One row's functions of the block's inputs -/

section Row
variable (x0 : Vec Ideal S1x512x1024 .f32) (x1 : Vec Ideal S1x1024 .f32) (x2 : Vec Ideal S1024x6656 .bf16)
  (x3 : Vec Ideal S1x2688 .f32) (x5 x6 : Vec Ideal S512x128 .f32)

/-- The normalized row. -/
def hrow (r : Fin 512) : Fin 1024 → EReal := normed (fun n => x0 (ix3 0 r n)) (fun n => x1 (ix2 0 n))
/-- A weight, its column a natural number. -/
def wcol (k : Fin 1024) (n : Nat) : EReal := if h : n < 6656 then x2 (ix2 k ⟨n, h⟩) else 0
/-- A gain, its column a natural number. -/
def gcol (n : Nat) : EReal := if h : n < 2688 then x3 (ix2 0 ⟨n, h⟩) else 0
/-- A row of a table, its column a natural number. -/
def tcol (x : Vec Ideal S512x128 .f32) (r : Fin 512) (l : Nat) : EReal := if h : l < 128 then x (ix2 r ⟨l, h⟩) else 0
/-- A projected column. -/
def P (r : Fin 512) (n : Nat) : EReal := proj (hrow x0 x1 r) (wcol x2) n
/-- A projected column, normalized in its head. -/
def U (r : Fin 512) (n : Nat) : EReal := unit (P x0 x1 x2 r) (gcol x3) n
/-- A projected column, normalized in its head and rotated. -/
def T (r : Fin 512) (n : Nat) : EReal := turn (U x0 x1 x2 x3 r) (tcol x5 r) (tcol x6 r) n
end Row

variable (c : Dev nD) (i : grid0.Coords) (arg2 : Memref sig .tc .vmem S1x512x1024 .f32) (harg2 : arg2.IsWhole)
  (arg3 : Memref sig .tc .vmem S1x1024 .f32) (harg3 : arg3.IsWhole) (arg4 : Memref sig .tc .vmem S1024x6656 .bf16)
  (harg4 : arg4.IsWhole) (arg5 : Memref sig .tc .vmem S1x2688 .f32) (harg5 : arg5.IsWhole)
  (arg6 : Memref sig .tc .vmem S256x256 .bf16) (harg6 : arg6.IsWhole) (arg7 : Memref sig .tc .vmem S512x128 .f32)
  (harg7 : arg7.IsWhole) (arg8 : Memref sig .tc .vmem S512x128 .f32) (harg8 : arg8.IsWhole)
  (arg9 : Memref sig .tc .vmem S1x12x512x64 .bf16) (harg9 : arg9.IsWhole)
  (arg10 : Memref sig .tc .vmem S1x3x512x64 .bf16) (harg10 : arg10.IsWhole)
  (arg11 : Memref sig .tc .vmem S1x3x512x64 .bf16) (harg11 : arg11.IsWhole)
  (arg12 : Memref sig .tc .vmem S1x512x768 .f32) (harg12 : arg12.IsWhole)
  (arg13 : Memref sig .tc .vmem S1x512x768 .f32) (harg13 : arg13.IsWhole)
  (arg14 : Memref sig .tc .vmem S1x512x384 .f32) (harg14 : arg14.IsWhole)
  (arg15 : Memref sig .tc .vmem S1x512x768 .f32) (harg15 : arg15.IsWhole)
  (arg16 : Memref sig .tc .vmem S1x512x1024 .bf16) (harg16 : arg16.IsWhole)
  (arg17 : Memref sig .tc .vmem S1x512x1024 .bf16) (harg17 : arg17.IsWhole)
  (arg18 : Memref sig .tc .vmem S1x512x384 .f32) (harg18 : arg18.IsWhole)
  (arg19 : Memref sig .tc .vmem S1x3x80x512 .bf16) (harg19 : arg19.IsWhole)
  (arg20 : Memref sig .tc .vmem S1x3x80x512 .bf16) (harg20 : arg20.IsWhole)
  (x0 : Vec Ideal S1x512x1024 .f32) (x1 : Vec Ideal S1x1024 .f32) (x2 : Vec Ideal S1024x6656 .bf16)
  (x3 : Vec Ideal S1x2688 .f32) (x4 : Vec Ideal S256x256 .bf16)
  (x5 : Vec Ideal S512x128 .f32) (x6 : Vec Ideal S512x128 .f32)

/-! ## The loads -/

theorem row_load (r : Fin 512) (k : Fin 1024) : kernelRun0_A.sl.r (F := Ideal) c arg2 harg2 arg3 harg3 x0 x1 (ix2 r k)
    = hrow x0 x1 r k := by
  have z3 : (![0, 0, 0] : Fin 3 → Nat) = fun _ => 0 := by decide
  have z2 : (![0, 0] : Fin 2 → Nat) = fun _ => 0 := by decide
  unfold kernelRun0_A.sl.r hrow
  rw [View.readAt_eq_ld, View.readAt_eq_ld, harg2.read_unread, harg3.read_unread, View.ld_unit_zero z3, View.ld_unit_zero z2,
    rows_apply]

theorem weight_load (w off : Nat) (inb) (k : Fin 1024) (j : Fin w) :
    View.readAt (Elt Ideal) arg4.view (Rect.unit (s := S1024x6656) ![0, off] ![1024, w] inb).toLoadRect (harg4.unread x2)
      (ix2 k j) = wcol x2 k (off + j.1) := by
  have hb : off + w ≤ 6656 := inb 1
  rw [View.readAt_eq_ld, harg4.read_unread]
  unfold wcol
  rw [dif_pos (by omega)]
  refine congrArg x2 (funext fun a => Fin.ext ?_)
  match a with
  | ⟨0, _⟩ => show 0 + 1 * k.1 = k.1; omega
  | ⟨1, _⟩ => show off + 1 * j.1 = off + j.1; omega

theorem gain_load (w off : Nat) (inb) (j : Fin w) :
    View.readAt (Elt Ideal) arg5.view (Rect.unit (s := S1x2688) ![0, off] ![1, w] inb).toLoadRect (harg5.unread x3)
      (ix2 0 j) = gcol x3 (off + j.1) := by
  have hb : off + w ≤ 2688 := inb 1
  rw [View.readAt_eq_ld, harg5.read_unread]
  unfold gcol
  rw [dif_pos (by omega)]
  refine congrArg x3 (funext fun a => Fin.ext ?_)
  match a with
  | ⟨0, _⟩ => rfl
  | ⟨1, _⟩ => show off + 1 * j.1 = off + j.1; omega

theorem cos_load (r : Fin 512) (l : Fin 128) : kernelRun0_A.sl.r_1 (F := Ideal) c arg7 harg7 x5 (ix2 r l) = tcol x5 r l.1 := by
  have z2 : (![0, 0] : Fin 2 → Nat) = fun _ => 0 := by decide
  unfold kernelRun0_A.sl.r_1 k0_pay4 tcol
  dsimp only
  rw [dif_pos l.2, View.readAt_eq_ld, harg7.read_unread, View.ld_unit_zero z2, shapeCast_self]

theorem sin_load (r : Fin 512) (l : Fin 128) : kernelRun0_A.sl.r_3 (F := Ideal) c arg8 harg8 x6 (ix2 r l) = tcol x6 r l.1 := by
  have z2 : (![0, 0] : Fin 2 → Nat) = fun _ => 0 := by decide
  unfold kernelRun0_A.sl.r_3 kernelRun0_A.sl.r_2 k0_pay5 tcol
  dsimp only
  rw [dif_pos l.2, View.readAt_eq_ld, harg8.read_unread, View.ld_unit_zero z2, shapeCast_self]

theorem heads_load : kernelRun0_A.sl.r_4 (F := Ideal) c arg6 harg6 x4 = x4 := by
  have z2 : (![0, 0] : Fin 2 → Nat) = fun _ => 0 := by decide
  unfold kernelRun0_A.sl.r_4 k0_pay6
  dsimp only
  rw [View.readAt_eq_ld, harg6.read_unread, View.ld_unit_zero z2, shapeCast_self]

/-! ## The blocks of columns -/

theorem P_wide (off : Nat) (inb) (r : Fin 512) (j : Fin 256) :
    k0_pay7 (kernelRun0_A.sl.r (F := Ideal) c arg2 harg2 arg3 harg3 x0 x1) (View.readAt (Elt Ideal) arg4.view
      (Rect.unit (s := S1024x6656) ![0, off] ![1024, 256] inb).toLoadRect (harg4.unread x2)) (ix2 r j)
      = P x0 x1 x2 r (off + j.1) :=
  (wide_apply _ _ (wcol x2) off (weight_load arg4 harg4 x2 256 off inb) r j).trans
    (by unfold P proj; simp only [row_load])

theorem P_narrow (off : Nat) (inb) (r : Fin 512) (j : Fin 128) :
    k0_pay62 (kernelRun0_A.sl.r (F := Ideal) c arg2 harg2 arg3 harg3 x0 x1) (View.readAt (Elt Ideal) arg4.view
      (Rect.unit (s := S1024x6656) ![0, off] ![1024, 128] inb).toLoadRect (harg4.unread x2)) (ix2 r j)
      = P x0 x1 x2 r (off + j.1) :=
  (narrow_apply _ _ (wcol x2) off (weight_load arg4 harg4 x2 128 off inb) r j).trans
    (by unfold P proj; simp only [row_load])

theorem P_trans (off : Nat) (inb) (i : Fin 384) (r : Fin 512) :
    k0_pay125 (kernelRun0_A.sl.r (F := Ideal) c arg2 harg2 arg3 harg3 x0 x1) (View.readAt (Elt Ideal) arg4.view
      (Rect.unit (s := S1024x6656) ![0, off] ![1024, 384] inb).toLoadRect (harg4.unread x2)) (ix2 i r)
      = P x0 x1 x2 r (off + i.1) :=
  (trans_apply _ _ (wcol x2) off (weight_load arg4 harg4 x2 384 off inb) i r).trans
    (by unfold P proj; simp only [row_load])

/-! ## The pieces the body stores -/

theorem dense_wide (off e : Nat) (inb hs hc) (he : e + 128 ≤ 256) (r : Fin 512) (l : Fin 128) :
    shapeCast S1x512x128 (extractStridedSlice S512x128 ![0, e]
      (k0_pay7 (kernelRun0_A.sl.r (F := Ideal) c arg2 harg2 arg3 harg3 x0 x1) (View.readAt (Elt Ideal) arg4.view
        (Rect.unit (s := S1024x6656) ![0, off] ![1024, 256] inb).toLoadRect (harg4.unread x2))) hs) hc (ix3 0 r l)
      = P x0 x1 x2 r (off + (e + l.1)) :=
  (cast_dense _ _ r l).trans ((lanes_apply e _ _ r l (by omega)).trans
    (P_wide c arg2 harg2 arg3 harg3 arg4 harg4 x0 x1 x2 off inb r _))

theorem dense_narrow (off : Nat) (inb hc) (r : Fin 512) (l : Fin 128) :
    shapeCast S1x512x128
      (k0_pay62 (kernelRun0_A.sl.r (F := Ideal) c arg2 harg2 arg3 harg3 x0 x1) (View.readAt (Elt Ideal) arg4.view
        (Rect.unit (s := S1024x6656) ![0, off] ![1024, 128] inb).toLoadRect (harg4.unread x2))) hc (ix3 0 r l)
      = P x0 x1 x2 r (off + l.1) :=
  (cast_dense _ _ r l).trans (P_narrow c arg2 harg2 arg3 harg3 arg4 harg4 x0 x1 x2 off inb r l)

/-- A gate's piece, before the rounding to its element type. -/
theorem gate_wide (off e : Nat) (inb hs hc) (he : e + 128 ≤ 256) (r : Fin 512) (l : Fin 128) :
    shapeCast S1x512x128 (extractStridedSlice S512x128 ![0, e] (logistic
      (k0_pay7 (kernelRun0_A.sl.r (F := Ideal) c arg2 harg2 arg3 harg3 x0 x1) (View.readAt (Elt Ideal) arg4.view
        (Rect.unit (s := S1024x6656) ![0, off] ![1024, 256] inb).toLoadRect (harg4.unread x2)))) hs) hc (ix3 0 r l)
      = Ideal.logistic (P x0 x1 x2 r (off + (e + l.1))) :=
  (cast_dense _ _ r l).trans ((lanes_apply e _ _ r l (by omega)).trans (congrArg Ideal.logistic
    (P_wide c arg2 harg2 arg3 harg3 arg4 harg4 x0 x1 x2 off inb r _)))

theorem gate_narrow (off : Nat) (inb hc) (r : Fin 512) (l : Fin 128) :
    shapeCast S1x512x128 (logistic
      (k0_pay62 (kernelRun0_A.sl.r (F := Ideal) c arg2 harg2 arg3 harg3 x0 x1) (View.readAt (Elt Ideal) arg4.view
        (Rect.unit (s := S1024x6656) ![0, off] ![1024, 128] inb).toLoadRect (harg4.unread x2)))) hc (ix3 0 r l)
      = Ideal.logistic (P x0 x1 x2 r (off + l.1)) :=
  (cast_dense _ _ r l).trans (congrArg Ideal.logistic
    (P_narrow c arg2 harg2 arg3 harg3 arg4 harg4 x0 x1 x2 off inb r l))

theorem round_apply {S : Shape} (v : FVec Ideal S .f32) (hb) (i : S.Idx) : truncf .bf16 v hb i = v i := rfl

/-- A gate's piece, rounded. -/
theorem gate_rounded (off e : Nat) (inb hs hb hc) (he : e + 128 ≤ 256) (r : Fin 512) (l : Fin 128) :
    shapeCast S1x512x128 (truncf .bf16 (extractStridedSlice S512x128 ![0, e] (logistic
      (k0_pay7 (kernelRun0_A.sl.r (F := Ideal) c arg2 harg2 arg3 harg3 x0 x1) (View.readAt (Elt Ideal) arg4.view
        (Rect.unit (s := S1024x6656) ![0, off] ![1024, 256] inb).toLoadRect (harg4.unread x2)))) hs) hb) hc (ix3 0 r l)
      = Ideal.logistic (P x0 x1 x2 r (off + (e + l.1))) :=
  (cast_dense _ _ r l).trans ((round_apply _ hb _).trans ((lanes_apply e _ hs r l (by omega)).trans
    (congrArg Ideal.logistic (P_wide c arg2 harg2 arg3 harg3 arg4 harg4 x0 x1 x2 off inb r _))))

theorem group_piece (off e : Nat) (inb hs hb hc) (he : e + 64 ≤ 384) (d : Fin 64) (r : Fin 512) :
    shapeCast S1x1x64x512 (truncf .bf16 (extractStridedSlice S64x512 ![e, 0]
      (k0_pay125 (kernelRun0_A.sl.r (F := Ideal) c arg2 harg2 arg3 harg3 x0 x1) (View.readAt (Elt Ideal) arg4.view
        (Rect.unit (s := S1024x6656) ![0, off] ![1024, 384] inb).toLoadRect (harg4.unread x2))) hs) hb) hc (ix4 0 0 d r)
      = P x0 x1 x2 r (off + (e + d.1)) :=
  (cast_group _ _ d r).trans ((group_apply e _ hs d r (by omega)).trans
    (P_trans c arg2 harg2 arg3 harg3 arg4 harg4 x0 x1 x2 off inb _ r))

section Rope
variable (hbd : ∀ k l : Fin 256, x4 (ix2 k l) = if k.1 / 64 = l.1 / 64 then share else 0)
include hbd

theorem U_wide (off : Nat) (inb inb') (ho : 64 * (off / 64) = off) (r : Fin 512) (j : Fin 256) :
    k0_pay16 (kernelRun0_A.sl.r_4 (F := Ideal) c arg6 harg6 x4)
      (k0_pay7 (kernelRun0_A.sl.r (F := Ideal) c arg2 harg2 arg3 harg3 x0 x1) (View.readAt (Elt Ideal) arg4.view
        (Rect.unit (s := S1024x6656) ![0, off] ![1024, 256] inb).toLoadRect (harg4.unread x2)))
      (View.readAt (Elt Ideal) arg5.view (Rect.unit (s := S1x2688) ![0, off] ![1, 256] inb').toLoadRect (harg5.unread x3))
      (ix2 r j) = U x0 x1 x2 x3 r (off + j.1) :=
  unit_wide _ _ _ (P x0 x1 x2 r) (gcol x3) off r (by rw [heads_load]; exact hbd) ho
    (P_wide c arg2 harg2 arg3 harg3 arg4 harg4 x0 x1 x2 off inb r) (gain_load arg5 harg5 x3 256 off inb') j

theorem U_narrow (off : Nat) (inb inb') (ho : 64 * (off / 64) = off) (r : Fin 512) (j : Fin 128) :
    mulf (mulf (k0_pay62 (kernelRun0_A.sl.r (F := Ideal) c arg2 harg2 arg3 harg3 x0 x1) (View.readAt (Elt Ideal) arg4.view
          (Rect.unit (s := S1024x6656) ![0, off] ![1024, 128] inb).toLoadRect (harg4.unread x2)))
        (k0_pay72 (kernelRun0_A.sl.r_4 (F := Ideal) c arg6 harg6 x4)
          (k0_pay62 (kernelRun0_A.sl.r (F := Ideal) c arg2 harg2 arg3 harg3 x0 x1) (View.readAt (Elt Ideal) arg4.view
          (Rect.unit (s := S1024x6656) ![0, off] ![1024, 128] inb).toLoadRect (harg4.unread x2)))))
      (broadcastTo S512x128 (shapeCast S1x128 (View.readAt (Elt Ideal) arg5.view
        (Rect.unit (s := S1x2688) ![0, off] ![1, 128] inb').toLoadRect (harg5.unread x3)) shapeCasts_S1x128_S1x128)
        broadcasts_S1x128_S512x128) (ix2 r j) = U x0 x1 x2 x3 r (off + j.1) :=
  unit_narrow _ _ _ (P x0 x1 x2 r) (gcol x3) off r (by rw [heads_load]; exact hbd) ho
    (P_narrow c arg2 harg2 arg3 harg3 arg4 harg4 x0 x1 x2 off inb r) (gain_load arg5 harg5 x3 128 off inb') j

/-- The rotation's arithmetic on 128 columns. -/
abbrev rotated (h1 h2 : S512x128.Rotates 1 none) (v : FVec Ideal S512x128 .f32) : FVec Ideal S512x128 .f32 :=
  addf (mulf v (kernelRun0_A.sl.r_1 (F := Ideal) c arg7 harg7 x5))
    (mulf (select k0_pay3 (dynamicRotate 1 96#32 none v h1) (dynamicRotate 1 32#32 none v h2))
      (kernelRun0_A.sl.r_3 (F := Ideal) c arg8 harg8 x6))

/-- 128 rotated columns out of a block of 256. -/
theorem T_wide (off e : Nat) (inb inb' hs h1 h2) (ho : 64 * (off / 64) = off) (he : e + 128 ≤ 256)
    (hoe : 128 * ((off + e) / 128) = off + e) (r : Fin 512) (l : Fin 128) :
    rotated c arg7 harg7 arg8 harg8 x5 x6 h1 h2 (extractStridedSlice S512x128 ![0, e] (k0_pay16 (kernelRun0_A.sl.r_4 (F := Ideal) c arg6 harg6 x4)
        (k0_pay7 (kernelRun0_A.sl.r (F := Ideal) c arg2 harg2 arg3 harg3 x0 x1) (View.readAt (Elt Ideal) arg4.view
          (Rect.unit (s := S1024x6656) ![0, off] ![1024, 256] inb).toLoadRect (harg4.unread x2)))
        (View.readAt (Elt Ideal) arg5.view (Rect.unit (s := S1x2688) ![0, off] ![1, 256] inb').toLoadRect
          (harg5.unread x3))) hs) (ix2 r l) = T x0 x1 x2 x3 x5 x6 r (off + e + l.1) :=
  turn_apply _ _ _ h1 h2 (U x0 x1 x2 x3 r) (tcol x5 r) (tcol x6 r) (off + e) r hoe
    (fun l => (lanes_apply e _ hs r l (by omega)).trans ((U_wide c arg2 harg2 arg3 harg3 arg4 harg4 arg5 harg5 arg6 harg6
      x0 x1 x2 x3 x4 hbd off inb inb' ho r _).trans (congrArg _ (Nat.add_assoc _ _ _).symm)))
    (cos_load c arg7 harg7 x5 r) (sin_load c arg8 harg8 x6 r) l

theorem dense_T_wide (off e : Nat) (inb inb' hs h1 h2 hc) (ho : 64 * (off / 64) = off) (he : e + 128 ≤ 256)
    (hoe : 128 * ((off + e) / 128) = off + e) (r : Fin 512) (l : Fin 128) :
    shapeCast S1x512x128 (rotated c arg7 harg7 arg8 harg8 x5 x6 h1 h2
      (extractStridedSlice S512x128 ![0, e] (k0_pay16 (kernelRun0_A.sl.r_4 (F := Ideal) c arg6 harg6 x4)
        (k0_pay7 (kernelRun0_A.sl.r (F := Ideal) c arg2 harg2 arg3 harg3 x0 x1) (View.readAt (Elt Ideal) arg4.view
          (Rect.unit (s := S1024x6656) ![0, off] ![1024, 256] inb).toLoadRect (harg4.unread x2)))
        (View.readAt (Elt Ideal) arg5.view (Rect.unit (s := S1x2688) ![0, off] ![1, 256] inb').toLoadRect
          (harg5.unread x3))) hs)) hc (ix3 0 r l) = T x0 x1 x2 x3 x5 x6 r (off + e + l.1) :=
  (cast_dense _ _ r l).trans (T_wide c arg2 harg2 arg3 harg3 arg4 harg4 arg5 harg5 arg6 harg6 arg7 harg7 arg8 harg8 x0 x1 x2
    x3 x4 x5 x6 hbd off e inb inb' hs h1 h2 ho he hoe r l)

/-- The last 128 rotated columns. -/
theorem T_narrow (off : Nat) (inb inb' h1 h2) (ho : 64 * (off / 64) = off)
    (hoe : 128 * (off / 128) = off) (r : Fin 512) (l : Fin 128) :
    rotated c arg7 harg7 arg8 harg8 x5 x6 h1 h2 (mulf (mulf (k0_pay62 (kernelRun0_A.sl.r (F := Ideal) c arg2 harg2 arg3 harg3 x0 x1)
            (View.readAt (Elt Ideal) arg4.view
            (Rect.unit (s := S1024x6656) ![0, off] ![1024, 128] inb).toLoadRect (harg4.unread x2)))
          (k0_pay72 (kernelRun0_A.sl.r_4 (F := Ideal) c arg6 harg6 x4)
            (k0_pay62 (kernelRun0_A.sl.r (F := Ideal) c arg2 harg2 arg3 harg3 x0 x1) (View.readAt (Elt Ideal) arg4.view
            (Rect.unit (s := S1024x6656) ![0, off] ![1024, 128] inb).toLoadRect (harg4.unread x2)))))
        (broadcastTo S512x128 (shapeCast S1x128 (View.readAt (Elt Ideal) arg5.view
          (Rect.unit (s := S1x2688) ![0, off] ![1, 128] inb').toLoadRect (harg5.unread x3)) shapeCasts_S1x128_S1x128)
          broadcasts_S1x128_S512x128)) (ix2 r l) = T x0 x1 x2 x3 x5 x6 r (off + l.1) :=
  turn_apply _ _ _ h1 h2 (U x0 x1 x2 x3 r) (tcol x5 r) (tcol x6 r) off r hoe
    (U_narrow c arg2 harg2 arg3 harg3 arg4 harg4 arg5 harg5 arg6 harg6 x0 x1 x2 x3 x4 hbd off inb inb' ho r)
    (cos_load c arg7 harg7 x5 r) (sin_load c arg8 harg8 x6 r) l

end Rope

end Cert.InBlk
-- ==== Proof.InOut.lean ====
module

public import proofs.«01_k».proof.Proof.InBlk

@[expose] public section

set_option maxRecDepth 16384

noncomputable section

/-! What the input projection's body leaves in each of its output blocks. -/

namespace Cert.InOut

open Cert.InKernelIdeal Cert.InKernelIdeal.Gen Idealize.ShloMosaic Idealize.ShloMosaic.TcCoe Cert.InSpec Cert.InPay Cert.InBlk
open Idealize.ShloMosaic.View

/-- A piece of 128 columns, at an element of its block. -/
theorem tile_dense {ε : EltTy} {N u : Nat} (r : Fin 512) (n : Fin N) (w : (⟨3, ![1, 512, 128]⟩ : Shape).Idx → Elt Ideal ε)
    (v : Nat → Elt Ideal ε) (hw : ∀ l : Fin 128, w (ix3 0 r l) = v (u + l.1)) :
    TileAt (S := ⟨3, ![1, 512, N]⟩) (Val := Elt Ideal) (e := ε) (ix3 0 r n) ![0, 0, u] ![1, 512, 128] w (v n.1) := by
  intro x hx
  have h1 : r.1 = 0 + (x 1).1 := hx 1
  have h2 : n.1 = u + (x 2).1 := hx 2
  have e : x = ix3 0 r (x 2) := by
    funext a
    match a with
    | ⟨0, _⟩ => exact Fin.ext (by have := (x 0).2; show (x 0).1 = 0; change (x 0).1 < 1 at this; omega)
    | ⟨1, _⟩ => exact Fin.ext (by show (x 1).1 = r.1; omega)
    | ⟨2, _⟩ => rfl
  exact (congrArg w e).trans ((hw _).trans (congrArg v h2.symm))

/-- A head's piece, at an element of its block. -/
theorem tile_head {ε : EltTy} {H u : Nat} (h : Fin H) (r : Fin 512) (d : Fin 64)
    (w : (⟨4, ![1, 1, 512, 64]⟩ : Shape).Idx → Elt Ideal ε)
    (v : Nat → Elt Ideal ε) (hw : w (ix4 0 0 r d) = v u) :
    TileAt (S := ⟨4, ![1, H, 512, 64]⟩) (Val := Elt Ideal) (e := ε) (ix4 0 h r d) ![0, u, 0, 0] ![1, 1, 512, 64] w
      (v h.1) := by
  intro x hx
  have h1 : h.1 = u + (x 1).1 := hx 1
  have h2 : r.1 = 0 + (x 2).1 := hx 2
  have h3 : d.1 = 0 + (x 3).1 := hx 3
  have b0 : (x 0).1 < 1 := (x 0).2
  have b1 : (x 1).1 < 1 := (x 1).2
  have e : x = ix4 0 0 r d := by
    funext a
    match a with
    | ⟨0, _⟩ => exact Fin.ext (by show (x 0).1 = 0; omega)
    | ⟨1, _⟩ => exact Fin.ext (by show (x 1).1 = 0; omega)
    | ⟨2, _⟩ => exact Fin.ext (by show (x 2).1 = r.1; omega)
    | ⟨3, _⟩ => exact Fin.ext (by show (x 3).1 = d.1; omega)
  have e2 : h.1 = u := by omega
  exact (congrArg w e).trans (hw.trans (congrArg v e2.symm))

/-- A group's rows, at an element of its block. -/
theorem tile_group {ε : EltTy} {u s k : Nat} (g : Fin 3) (i : Fin 80) (r : Fin 512)
    (w : (⟨4, ![1, 1, k, 512]⟩ : Shape).Idx → Elt Ideal ε)
    (v : Nat → Nat → Elt Ideal ε) (hw : ∀ d : Fin k, w (ix4 0 0 d r) = v u (s + d.1)) :
    TileAt (S := ⟨4, ![1, 3, 80, 512]⟩) (Val := Elt Ideal) (e := ε) (ix4 0 g i r) ![0, u, s, 0] ![1, 1, k, 512] w
      (v g.1 i.1) := by
  intro x hx
  have h1 : g.1 = u + (x 1).1 := hx 1
  have h2 : i.1 = s + (x 2).1 := hx 2
  have h3 : r.1 = 0 + (x 3).1 := hx 3
  have b0 : (x 0).1 < 1 := (x 0).2
  have b1 : (x 1).1 < 1 := (x 1).2
  have e : x = ix4 0 0 (x 2) r := by
    funext a
    match a with
    | ⟨0, _⟩ => exact Fin.ext (by show (x 0).1 = 0; omega)
    | ⟨1, _⟩ => exact Fin.ext (by show (x 1).1 = 0; omega)
    | ⟨2, _⟩ => rfl
    | ⟨3, _⟩ => exact Fin.ext (by show (x 3).1 = r.1; omega)
  have e2 : g.1 = u := by omega
  exact (congrArg w e).trans ((hw _).trans (by rw [e2, h2]))

variable (c : Dev nD) (i : grid0.Coords) (arg2 : Memref sig .tc .vmem S1x512x1024 .f32) (harg2 : arg2.IsWhole)
  (arg3 : Memref sig .tc .vmem S1x1024 .f32) (harg3 : arg3.IsWhole) (arg4 : Memref sig .tc .vmem S1024x6656 .bf16)
  (harg4 : arg4.IsWhole) (arg5 : Memref sig .tc .vmem S1x2688 .f32) (harg5 : arg5.IsWhole)
  (arg6 : Memref sig .tc .vmem S256x256 .bf16) (harg6 : arg6.IsWhole) (arg7 : Memref sig .tc .vmem S512x128 .f32)
  (harg7 : arg7.IsWhole) (arg8 : Memref sig .tc .vmem S512x128 .f32) (harg8 : arg8.IsWhole)
  (arg9 : Memref sig .tc .vmem S1x12x512x64 .bf16) (harg9 : arg9.IsWhole)
  (arg10 : Memref sig .tc .vmem S1x3x512x64 .bf16) (harg10 : arg10.IsWhole)
  (arg11 : Memref sig .tc .vmem S1x3x512x64 .bf16) (harg11 : arg11.IsWhole)
  (arg12 : Memref sig .tc .vmem S1x512x768 .f32) (harg12 : arg12.IsWhole)
  (arg13 : Memref sig .tc .vmem S1x512x768 .f32) (harg13 : arg13.IsWhole)
  (arg14 : Memref sig .tc .vmem S1x512x384 .f32) (harg14 : arg14.IsWhole)
  (arg15 : Memref sig .tc .vmem S1x512x768 .f32) (harg15 : arg15.IsWhole)
  (arg16 : Memref sig .tc .vmem S1x512x1024 .bf16) (harg16 : arg16.IsWhole)
  (arg17 : Memref sig .tc .vmem S1x512x1024 .bf16) (harg17 : arg17.IsWhole)
  (arg18 : Memref sig .tc .vmem S1x512x384 .f32) (harg18 : arg18.IsWhole)
  (arg19 : Memref sig .tc .vmem S1x3x80x512 .bf16) (harg19 : arg19.IsWhole)
  (arg20 : Memref sig .tc .vmem S1x3x80x512 .bf16) (harg20 : arg20.IsWhole)
  (x0 : Vec Ideal S1x512x1024 .f32) (x1 : Vec Ideal S1x1024 .f32) (x2 : Vec Ideal S1024x6656 .bf16)
  (x3 : Vec Ideal S1x2688 .f32) (x4 : Vec Ideal S256x256 .bf16)
  (x5 : Vec Ideal S512x128 .f32) (x6 : Vec Ideal S512x128 .f32)

/-- The compressed branch's keys and values. -/
theorem kvc_apply (r : Fin 512) (n : Fin 384) : out0_A_12 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 x0 x1 x2 x3 x4 x5 x6 (ix3 0 r n)
    = P x0 x1 x2 r (2688 + n.1) := by
  unfold out0_A_12
  refine (View.read_writes_junk_apply_eq_canon _ _ _).trans ?_
  refine View.canon_eq_of_allAt _ _ _ (cover0_A_12 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19 arg20 harg20 x0 x1 x2 x3 x4 x5 x6 _) ?_
  unfold kernelRun0_A
  dsimp only
  repeat' first
    | exact View.allAt_nil _ _
    | refine View.allAt_cons_unit _ _ _ _ _ (tile_dense (ε := .f32) r n _ (fun n => P x0 x1 x2 r (2688 + n)) ?_) ?_
  all_goals intro l
  all_goals exact (dense_wide c arg2 harg2 arg3 harg3 arg4 harg4 x0 x1 x2 _ _ _ (by first | exact slices_S512x256_o0_0_S512x128 | exact slices_S512x256_o0_128_S512x128) _ (by decide) r l).trans (congrArg (fun n => P x0 x1 x2 r n) (by omega))

/-- The dilated branch's values. -/
theorem vb_apply (r : Fin 512) (n : Fin 768) : out0_A_13 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 x0 x1 x2 x3 x4 x5 x6 (ix3 0 r n)
    = P x0 x1 x2 r (3072 + n.1) := by
  unfold out0_A_13
  refine (View.read_writes_junk_apply_eq_canon _ _ _).trans ?_
  refine View.canon_eq_of_allAt _ _ _ (cover0_A_13 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19 arg20 harg20 x0 x1 x2 x3 x4 x5 x6 _) ?_
  unfold kernelRun0_A
  dsimp only
  repeat' first
    | exact View.allAt_nil _ _
    | refine View.allAt_cons_unit _ _ _ _ _ (tile_dense (ε := .f32) r n _ (fun n => P x0 x1 x2 r (3072 + n)) ?_) ?_
  all_goals intro l
  · exact (dense_narrow c arg2 harg2 arg3 harg3 arg4 harg4 x0 x1 x2 _ _ _ r l).trans (congrArg (fun n => P x0 x1 x2 r n) (by omega))
  all_goals exact (dense_wide c arg2 harg2 arg3 harg3 arg4 harg4 x0 x1 x2 _ _ _ (by first | exact slices_S512x256_o0_0_S512x128 | exact slices_S512x256_o0_128_S512x128) _ (by decide) r l).trans (congrArg (fun n => P x0 x1 x2 r n) (by omega))

/-- The first branch's mixing gate. -/
theorem gma_apply (r : Fin 512) (n : Fin 1024) : out0_A_14 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 x0 x1 x2 x3 x4 x5 x6 (ix3 0 r n)
    = Ideal.logistic (P x0 x1 x2 r (3840 + n.1)) := by
  unfold out0_A_14
  refine (View.read_writes_junk_apply_eq_canon _ _ _).trans ?_
  refine View.canon_eq_of_allAt _ _ _ (cover0_A_14 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19 arg20 harg20 x0 x1 x2 x3 x4 x5 x6 _) ?_
  unfold kernelRun0_A
  dsimp only
  repeat' first
    | exact View.allAt_nil _ _
    | refine View.allAt_cons_unit _ _ _ _ _ (tile_dense (ε := .bf16) r n _ (fun n => Ideal.logistic (P x0 x1 x2 r (3840 + n))) ?_) ?_
  all_goals intro l
  all_goals exact (gate_rounded c arg2 harg2 arg3 harg3 arg4 harg4 x0 x1 x2 _ _ _ _ _ _ (by decide) r l).trans (congrArg (fun n => Ideal.logistic (P x0 x1 x2 r n)) (by omega))

/-- The second branch's mixing gate. -/
theorem gmb_apply (r : Fin 512) (n : Fin 1024) : out0_A_15 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 x0 x1 x2 x3 x4 x5 x6 (ix3 0 r n)
    = Ideal.logistic (P x0 x1 x2 r (4864 + n.1)) := by
  unfold out0_A_15
  refine (View.read_writes_junk_apply_eq_canon _ _ _).trans ?_
  refine View.canon_eq_of_allAt _ _ _ (cover0_A_15 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19 arg20 harg20 x0 x1 x2 x3 x4 x5 x6 _) ?_
  unfold kernelRun0_A
  dsimp only
  repeat' first
    | exact View.allAt_nil _ _
    | refine View.allAt_cons_unit _ _ _ _ _ (tile_dense (ε := .bf16) r n _ (fun n => Ideal.logistic (P x0 x1 x2 r (4864 + n))) ?_) ?_
  all_goals intro l
  all_goals exact (gate_rounded c arg2 harg2 arg3 harg3 arg4 harg4 x0 x1 x2 _ _ _ _ _ _ (by decide) r l).trans (congrArg (fun n => Ideal.logistic (P x0 x1 x2 r n)) (by omega))

/-- The gates between the first branch's three parts. -/
theorem gns_apply (r : Fin 512) (n : Fin 384) : out0_A_16 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 x0 x1 x2 x3 x4 x5 x6 (ix3 0 r n)
    = Ideal.logistic (P x0 x1 x2 r (5888 + n.1)) := by
  unfold out0_A_16
  refine (View.read_writes_junk_apply_eq_canon _ _ _).trans ?_
  refine View.canon_eq_of_allAt _ _ _ (cover0_A_16 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19 arg20 harg20 x0 x1 x2 x3 x4 x5 x6 _) ?_
  unfold kernelRun0_A
  dsimp only
  repeat' first
    | exact View.allAt_nil _ _
    | refine View.allAt_cons_unit _ _ _ _ _ (tile_dense (ε := .f32) r n _ (fun n => Ideal.logistic (P x0 x1 x2 r (5888 + n))) ?_) ?_
  all_goals intro l
  · exact (gate_narrow c arg2 harg2 arg3 harg3 arg4 harg4 x0 x1 x2 _ _ _ r l).trans (congrArg (fun n => Ideal.logistic (P x0 x1 x2 r n)) (by omega))
  all_goals exact (gate_wide c arg2 harg2 arg3 harg3 arg4 harg4 x0 x1 x2 _ _ _ _ _ (by decide) r l).trans (congrArg (fun n => Ideal.logistic (P x0 x1 x2 r n)) (by omega))

/-- The selected branch's values, transposed, with sixteen rows of ones below each group. -/
theorem vst_apply (g : Fin 3) (j : Fin 80) (r : Fin 512) :
    out0_A_17 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 x0 x1 x2 x3 x4 x5 x6 (ix4 0 g j r)
    = if j.1 < 64 then P x0 x1 x2 r (6272 + (64 * g.1 + j.1)) else Ideal.ofBits .bf16 0x3F80#16 := by
  unfold out0_A_17
  refine (View.read_writes_junk_apply_eq_canon _ _ _).trans ?_
  refine View.canon_eq_of_allAt _ _ _ (cover0_A_17 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19 arg20 harg20 x0 x1 x2 x3 x4 x5 x6 _) ?_
  unfold kernelRun0_A
  dsimp only
  repeat' first
    | exact View.allAt_nil _ _
    | refine View.allAt_cons_unit _ _ _ _ _ (tile_group (ε := .bf16) g j r _
        (fun g j => if j < 64 then P x0 x1 x2 r (6272 + (64 * g + j)) else Ideal.ofBits .bf16 0x3F80#16) ?_) ?_
  all_goals intro d
  · exact (cast_ones (φ := .bf16) k0_pay126 _ d r).trans (if_neg (Nat.not_lt.2 (Nat.le_add_right 64 d.1))).symm
  · exact (group_piece c arg2 harg2 arg3 harg3 arg4 harg4 x0 x1 x2 _ _ _ _ _ _ (by decide) d r).trans
      ((congrArg (P x0 x1 x2 r) (by omega)).trans (if_pos (by omega)).symm)
  · exact (cast_ones (φ := .bf16) k0_pay126 _ d r).trans (if_neg (Nat.not_lt.2 (Nat.le_add_right 64 d.1))).symm
  · exact (group_piece c arg2 harg2 arg3 harg3 arg4 harg4 x0 x1 x2 _ _ _ _ _ _ (by decide) d r).trans
      ((congrArg (P x0 x1 x2 r) (by omega)).trans (if_pos (by omega)).symm)
  · exact (cast_ones (φ := .bf16) k0_pay126 _ d r).trans (if_neg (Nat.not_lt.2 (Nat.le_add_right 64 d.1))).symm
  · exact (group_piece c arg2 harg2 arg3 harg3 arg4 harg4 x0 x1 x2 _ _ _ _ _ _ (by decide) d r).trans
      ((congrArg (P x0 x1 x2 r) (by omega)).trans (if_pos (by omega)).symm)

/-- The window branch's values, transposed, with sixteen rows of ones below each group. -/
theorem vwt_apply (g : Fin 3) (j : Fin 80) (r : Fin 512) :
    out0_A_18 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 x0 x1 x2 x3 x4 x5 x6 (ix4 0 g j r)
    = if j.1 < 64 then P x0 x1 x2 r (6464 + (64 * g.1 + j.1)) else Ideal.ofBits .bf16 0x3F80#16 := by
  unfold out0_A_18
  refine (View.read_writes_junk_apply_eq_canon _ _ _).trans ?_
  refine View.canon_eq_of_allAt _ _ _ (cover0_A_18 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19 arg20 harg20 x0 x1 x2 x3 x4 x5 x6 _) ?_
  unfold kernelRun0_A
  dsimp only
  repeat' first
    | exact View.allAt_nil _ _
    | refine View.allAt_cons_unit _ _ _ _ _ (tile_group (ε := .bf16) g j r _
        (fun g j => if j < 64 then P x0 x1 x2 r (6464 + (64 * g + j)) else Ideal.ofBits .bf16 0x3F80#16) ?_) ?_
  all_goals intro d
  · exact (cast_ones (φ := .bf16) k0_pay126 _ d r).trans (if_neg (Nat.not_lt.2 (Nat.le_add_right 64 d.1))).symm
  · exact (group_piece c arg2 harg2 arg3 harg3 arg4 harg4 x0 x1 x2 _ _ _ _ _ _ (by decide) d r).trans
      ((congrArg (P x0 x1 x2 r) (by omega)).trans (if_pos (by omega)).symm)
  · exact (cast_ones (φ := .bf16) k0_pay126 _ d r).trans (if_neg (Nat.not_lt.2 (Nat.le_add_right 64 d.1))).symm
  · exact (group_piece c arg2 harg2 arg3 harg3 arg4 harg4 x0 x1 x2 _ _ _ _ _ _ (by decide) d r).trans
      ((congrArg (P x0 x1 x2 r) (by omega)).trans (if_pos (by omega)).symm)
  · exact (cast_ones (φ := .bf16) k0_pay126 _ d r).trans (if_neg (Nat.not_lt.2 (Nat.le_add_right 64 d.1))).symm
  · exact (group_piece c arg2 harg2 arg3 harg3 arg4 harg4 x0 x1 x2 _ _ _ _ _ _ (by decide) d r).trans
      ((congrArg (P x0 x1 x2 r) (by omega)).trans (if_pos (by omega)).symm)

section Rope
variable (hbd : ∀ k l : Fin 256, x4 (ix2 k l) = if k.1 / 64 = l.1 / 64 then share else 0)
include hbd

/-- The dilated branch's queries. -/
theorem qb_apply (r : Fin 512) (n : Fin 768) : out0_A_10 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 x0 x1 x2 x3 x4 x5 x6 (ix3 0 r n)
    = T x0 x1 x2 x3 x5 x6 r (768 + n.1) := by
  unfold out0_A_10
  refine (View.read_writes_junk_apply_eq_canon _ _ _).trans ?_
  refine View.canon_eq_of_allAt _ _ _ (cover0_A_10 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19 arg20 harg20 x0 x1 x2 x3 x4 x5 x6 _) ?_
  unfold kernelRun0_A
  dsimp only
  repeat' first
    | exact View.allAt_nil _ _
    | refine View.allAt_cons_unit _ _ _ _ _ (tile_dense (ε := .f32) r n _ (fun n => T x0 x1 x2 x3 x5 x6 r (768 + n)) ?_) ?_
  all_goals intro l
  all_goals exact (dense_T_wide c arg2 harg2 arg3 harg3 arg4 harg4 arg5 harg5 arg6 harg6 arg7 harg7 arg8 harg8 x0 x1 x2 x3 x4 x5 x6 hbd _ _ _ _ (by first | exact slices_S512x256_o0_0_S512x128 | exact slices_S512x256_o0_128_S512x128) _ _ _ (by decide) (by decide) (by decide) r l).trans (congrArg (T x0 x1 x2 x3 x5 x6 r) (by omega))

/-- The dilated branch's keys. -/
theorem kb_apply (r : Fin 512) (n : Fin 768) : out0_A_11 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 x0 x1 x2 x3 x4 x5 x6 (ix3 0 r n)
    = T x0 x1 x2 x3 x5 x6 r (1536 + n.1) := by
  unfold out0_A_11
  refine (View.read_writes_junk_apply_eq_canon _ _ _).trans ?_
  refine View.canon_eq_of_allAt _ _ _ (cover0_A_11 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19 arg20 harg20 x0 x1 x2 x3 x4 x5 x6 _) ?_
  unfold kernelRun0_A
  dsimp only
  repeat' first
    | exact View.allAt_nil _ _
    | refine View.allAt_cons_unit _ _ _ _ _ (tile_dense (ε := .f32) r n _ (fun n => T x0 x1 x2 x3 x5 x6 r (1536 + n)) ?_) ?_
  all_goals intro l
  all_goals exact (dense_T_wide c arg2 harg2 arg3 harg3 arg4 harg4 arg5 harg5 arg6 harg6 arg7 harg7 arg8 harg8 x0 x1 x2 x3 x4 x5 x6 hbd _ _ _ _ (by first | exact slices_S512x256_o0_0_S512x128 | exact slices_S512x256_o0_128_S512x128) _ _ _ (by decide) (by decide) (by decide) r l).trans (congrArg (T x0 x1 x2 x3 x5 x6 r) (by omega))

/-- The first branch's queries. -/
theorem qa_apply (h : Fin 12) (r : Fin 512) (d : Fin 64) :
    out0_A_7 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 x0 x1 x2 x3 x4 x5 x6 (ix4 0 h r d)
    = T x0 x1 x2 x3 x5 x6 r (0 + (64 * h.1 + d.1)) := by
  unfold out0_A_7
  refine (View.read_writes_junk_apply_eq_canon _ _ _).trans ?_
  refine View.canon_eq_of_allAt _ _ _ (cover0_A_7 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19 arg20 harg20 x0 x1 x2 x3 x4 x5 x6 _) ?_
  unfold kernelRun0_A
  dsimp only
  repeat' first
    | exact View.allAt_nil _ _
    | refine View.allAt_cons_unit _ _ _ _ _ (tile_head (ε := .bf16) h r d _ (fun h => T x0 x1 x2 x3 x5 x6 r (0 + (64 * h + d.1))) ?_) ?_
  all_goals exact (cast_head _ _ r d).trans ((round_apply _ _ _).trans ((half_apply _ _ _ r d (by omega)).trans
        ((T_wide c arg2 harg2 arg3 harg3 arg4 harg4 arg5 harg5 arg6 harg6 arg7 harg7 arg8 harg8 x0 x1 x2 x3 x4 x5 x6 hbd _ _ _ _ (by first | exact slices_S512x256_o0_0_S512x128 | exact slices_S512x256_o0_128_S512x128) _ _ (by decide) (by decide) (by decide) r _).trans (congrArg (T x0 x1 x2 x3 x5 x6 r) (by dsimp only <;> omega)))))

/-- The selected branch's keys. -/
theorem ks_apply (h : Fin 3) (r : Fin 512) (d : Fin 64) :
    out0_A_8 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 x0 x1 x2 x3 x4 x5 x6 (ix4 0 h r d)
    = T x0 x1 x2 x3 x5 x6 r (2304 + (64 * h.1 + d.1)) := by
  unfold out0_A_8
  refine (View.read_writes_junk_apply_eq_canon _ _ _).trans ?_
  refine View.canon_eq_of_allAt _ _ _ (cover0_A_8 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19 arg20 harg20 x0 x1 x2 x3 x4 x5 x6 _) ?_
  unfold kernelRun0_A
  dsimp only
  repeat' first
    | exact View.allAt_nil _ _
    | refine View.allAt_cons_unit _ _ _ _ _ (tile_head (ε := .bf16) h r d _ (fun h => T x0 x1 x2 x3 x5 x6 r (2304 + (64 * h + d.1))) ?_) ?_
  all_goals exact (cast_head _ _ r d).trans ((round_apply _ _ _).trans ((half_apply _ _ _ r d (by omega)).trans
        ((T_wide c arg2 harg2 arg3 harg3 arg4 harg4 arg5 harg5 arg6 harg6 arg7 harg7 arg8 harg8 x0 x1 x2 x3 x4 x5 x6 hbd _ _ _ _ (by first | exact slices_S512x256_o0_0_S512x128 | exact slices_S512x256_o0_128_S512x128) _ _ (by decide) (by decide) (by decide) r _).trans (congrArg (T x0 x1 x2 x3 x5 x6 r) (by dsimp only <;> omega)))))

/-- The window branch's keys. -/
theorem kw_apply (h : Fin 3) (r : Fin 512) (d : Fin 64) :
    out0_A_9 (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      arg19 harg19 arg20 harg20 x0 x1 x2 x3 x4 x5 x6 (ix4 0 h r d)
    = T x0 x1 x2 x3 x5 x6 r (2496 + (64 * h.1 + d.1)) := by
  unfold out0_A_9
  refine (View.read_writes_junk_apply_eq_canon _ _ _).trans ?_
  refine View.canon_eq_of_allAt _ _ _ (cover0_A_9 c i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18
    arg19 harg19 arg20 harg20 x0 x1 x2 x3 x4 x5 x6 _) ?_
  unfold kernelRun0_A
  dsimp only
  repeat' first
    | exact View.allAt_nil _ _
    | refine View.allAt_cons_unit _ _ _ _ _ (tile_head (ε := .bf16) h r d _ (fun h => T x0 x1 x2 x3 x5 x6 r (2496 + (64 * h + d.1))) ?_) ?_
  · exact (cast_head _ _ r d).trans ((round_apply _ _ _).trans ((half_apply _ _ _ r d (by omega)).trans
        ((T_narrow c arg2 harg2 arg3 harg3 arg4 harg4 arg5 harg5 arg6 harg6 arg7 harg7 arg8 harg8 x0 x1 x2 x3 x4 x5 x6 hbd _ _ _ _ _ (by decide) (by decide) r _).trans (congrArg (T x0 x1 x2 x3 x5 x6 r) (by dsimp only <;> omega)))))
  · exact (cast_head _ _ r d).trans ((round_apply _ _ _).trans ((half_apply _ _ _ r d (by omega)).trans
        ((T_narrow c arg2 harg2 arg3 harg3 arg4 harg4 arg5 harg5 arg6 harg6 arg7 harg7 arg8 harg8 x0 x1 x2 x3 x4 x5 x6 hbd _ _ _ _ _ (by decide) (by decide) r _).trans (congrArg (T x0 x1 x2 x3 x5 x6 r) (by dsimp only <;> omega)))))
  · exact (cast_head _ _ r d).trans ((round_apply _ _ _).trans ((half_apply _ _ _ r d (by omega)).trans
        ((T_wide c arg2 harg2 arg3 harg3 arg4 harg4 arg5 harg5 arg6 harg6 arg7 harg7 arg8 harg8 x0 x1 x2 x3 x4 x5 x6 hbd _ _ _ _ (by first | exact slices_S512x256_o0_0_S512x128 | exact slices_S512x256_o0_128_S512x128) _ _ (by decide) (by decide) (by decide) r _).trans (congrArg (T x0 x1 x2 x3 x5 x6 r) (by dsimp only <;> omega)))))

end Rope

end Cert.InOut
-- ==== Proof.InForm.lean ====
module

public import proofs.«01_k».proof.Proof.InSpec

@[expose] public section

set_option maxRecDepth 16384

noncomputable section

/-! The input projection as functions of the call's arguments. The projected columns are in the order in which the results
    take them: the queries and keys that are normalized and rotated first, then the plain values, the gates, and the values
    that are stored transposed. -/

namespace Cert.InForm

open Idealize.ShloMosaic Cert.InSpec

/-- The call's arguments, at their indices. -/
structure Args where
  x : Fin 4 → Fin 4096 → Fin 1024 → EReal
  g : Fin 1024 → EReal
  w : Fin 1024 → Fin 6308 → EReal
  qa : Fin 64 → EReal
  ks : Fin 64 → EReal
  kw : Fin 64 → EReal
  qb : Fin 64 → EReal
  kb : Fin 64 → EReal

/-- The place of a column in its head. -/
def inHead (n : Nat) : Fin 64 := ⟨n % 64, Nat.mod_lt _ (by decide)⟩
/-- The queries' scale. -/
abbrev scale : EReal := Ideal.ofBits .f32 0x3E38AA3B#32
/-- The rotation's angle at a position, for a column of the half head. -/
def ang (s j : Nat) : EReal :=
  FloatOps.sitofp (F := Ideal) .f32 (BitVec.ofNat 32 s) * Ideal.pow (Ideal.ofBits .f32 0x461C4000#32)
    (Ideal.div (-FloatOps.sitofp (F := Ideal) .f32 (BitVec.ofNat 32 j)) (Ideal.ofBits .f32 0x42000000#32))
/-- The table of cosines. -/
def cosT (s l : Nat) : EReal := Ideal.cos (ang s (l % 32))
/-- The table of sines, negated in each head's first half. -/
def sinT (s l : Nat) : EReal := if l % 64 < 32 then -Ideal.sin (ang s (l % 32)) else Ideal.sin (ang s (l % 32))

variable (A : Args)

/-- A column of the weights as given. -/
def Args.win (k : Fin 1024) (n : Nat) : EReal := if h : n < 6308 then A.w k ⟨n, h⟩ else 0
/-- A column of the weights in the results' order. -/
def Args.wp (k : Fin 1024) (n : Nat) : EReal :=
  if n < 768 then A.win k n
  else if n < 2304 then A.win k (n + 1188)
  else if n < 2496 then A.win k (n - 1152)
  else if n < 2688 then A.win k (n - 960)
  else if n < 3072 then A.win k (n - 1920)
  else if n < 5888 then A.win k (n + 420)
  else if n < 6272 then (if (n - 5888) % 128 < 12 then A.win k (1920 + (12 * ((n - 5888) / 128) + (n - 5888) % 128)) else 0)
  else if n < 6464 then A.win k (n - 4928)
  else if n < 6656 then A.win k (n - 4736)
  else 0
/-- A column's gain. -/
def Args.gain (n : Nat) : EReal :=
  if n < 768 then A.qa (inHead n) * scale
  else if n < 1536 then A.qb (inHead n) * scale
  else if n < 2304 then A.kb (inHead n)
  else if n < 2496 then A.ks (inHead n)
  else if n < 2688 then A.kw (inHead n)
  else 0
/-- The normalized row. -/
def Args.h (b : Fin 4) (s : Fin 4096) : Fin 1024 → EReal := normed (A.x b s) A.g
/-- A projected column. -/
def Args.P (b : Fin 4) (s : Fin 4096) (n : Nat) : EReal := proj (A.h b s) A.wp n
/-- A projected column, normalized in its head. -/
def Args.U (b : Fin 4) (s : Fin 4096) (n : Nat) : EReal := unit (A.P b s) A.gain n
/-- A projected column, normalized in its head and rotated. -/
def Args.T (b : Fin 4) (s : Fin 4096) (n : Nat) : EReal := turn (A.U b s) (cosT s.1) (sinT s.1) n
/-- A group of transposed values with the rows of ones below. -/
def Args.V (base : Nat) (b : Fin 4) (g : Fin 3) (i : Fin 80) (s : Fin 4096) : EReal :=
  if i.1 < 64 then A.P b s (base + (64 * g.1 + i.1)) else Ideal.ofBits .bf16 0x3F80#16

end Cert.InForm
-- ==== Proof.InHost.lean ====
module

public import proofs.«01_k».proof.Proof.Gen.InKernelIdeal.Value
public import proofs.«01_k».proof.Proof.InOut
public import proofs.«01_k».proof.Proof.InForm
public import Idealize.ShloMosaic.Lib.StableHlo.ReadAt

@[expose] public section

set_option maxRecDepth 16384

noncomputable section

/-! The operands that the program prepares for the input projection: the weights' columns reordered. -/

namespace Cert.InHost

open Cert.InKernelIdeal Cert.InKernelIdeal.Gen Idealize.ShloMosaic Idealize.ShloMosaic.TcCoe Cert.InSpec Cert.InForm

variable (m : (ℓ : Loc nD τ sig) → Buf (Elt Ideal) ℓ)

/-- The arguments, read from a memory. -/
def args (c : Dev nD) : Args where
  x b s n := (m ((c : Thread nD τ).loc main_arg0) : Vec Ideal S4x4096x1024 .f32) (ix3 b s n)
  g n := (m ((c : Thread nD τ).loc main_arg1) : Vec Ideal S1024 .f32) (ix1 n)
  w k n := (m ((c : Thread nD τ).loc main_arg2) : Vec Ideal S1024x6308 .f32) (ix2 k n)
  qa d := (m ((c : Thread nD τ).loc main_arg3) : Vec Ideal S64 .f32) (ix1 d)
  ks d := (m ((c : Thread nD τ).loc main_arg4) : Vec Ideal S64 .f32) (ix1 d)
  kw d := (m ((c : Thread nD τ).loc main_arg5) : Vec Ideal S64 .f32) (ix1 d)
  qb d := (m ((c : Thread nD τ).loc main_arg6) : Vec Ideal S64 .f32) (ix1 d)
  kb d := (m ((c : Thread nD τ).loc main_arg7) : Vec Ideal S64 .f32) (ix1 d)

/-- A reordered column, from the place that it has among the input's columns. -/
theorem col_at (c : Dev nD) (k : Fin 1024) (n : Nat) (s : Fin 6308) (h : (args m c).wp k n = (args m c).win k s.1) :
    (m ((c : Thread nD τ).loc main_arg2) : Vec Ideal S1024x6308 .f32) (ix2 k s) = (args m c).wp k n :=
  Eq.symm (h.trans (dif_pos s.2))

/-- The columns of the compressed branch's keys and values. -/
theorem wp_kvc (A : Args) (k : Fin 1024) {n : Nat} (h1 : 2688 ≤ n) (h2 : n < 3072) : A.wp k n = A.win k (n - 1920) := by
  unfold Args.wp
  rw [if_neg (by omega), if_neg (by omega), if_neg (by omega), if_neg (by omega), if_pos h2]

/-- The columns of the dilated groups' values and of the two mixers' gates. -/
theorem wp_plain (A : Args) (k : Fin 1024) {n : Nat} (h1 : 3072 ≤ n) (h2 : n < 5888) : A.wp k n = A.win k (n + 420) := by
  unfold Args.wp
  rw [if_neg (by omega), if_neg (by omega), if_neg (by omega), if_neg (by omega), if_neg (by omega), if_pos h2]

set_option maxHeartbeats 3200000 in
/-- The reordered weights, at the columns that are neither normed nor padded. -/
theorem weights (c : Dev nD) (k : Fin 1024) (n : Fin 6656) (h1 : 2688 ≤ n.1) (h2 : n.1 < 5888) :
    V m c main_v22 (ix2 k n) = (args m c).wp k n.1 := by
  generalize hv : (args m c).wp k n.1 = v
  unfold V
  after_reads_at
  rw [dif_neg (by omega), dif_neg (by omega), dif_neg (by omega), dif_neg (by omega), dif_neg (by omega)]
  by_cases c1 : n.1 < 3072
  · rw [dif_pos (by omega)]
    after_reads_simp
    pointwise
    rw [← hv]
    by_cases c2 : n.1 < 2880
    · refine (dif_pos (by omega)).trans (col_at m c k n.1 _ ?_)
      rw [wp_kvc _ _ h1 c1]; exact congrArg _ (by dsimp only; omega)
    · refine (dif_neg (by omega)).trans (col_at m c k n.1 _ ?_)
      rw [wp_kvc _ _ h1 c1]; exact congrArg _ (by dsimp only; omega)
  rw [dif_neg (by omega)]
  by_cases c2 : n.1 < 3840
  · rw [dif_pos (by omega)]
    after_reads_at
    rw [← hv]
    refine col_at m c k n.1 _ ?_
    rw [wp_plain _ _ (by omega) h2]; exact congrArg _ (by dsimp only; omega)
  rw [dif_neg (by omega)]
  by_cases c3 : n.1 < 4864
  · rw [dif_pos (by omega)]
    after_reads_at
    rw [← hv]
    refine col_at m c k n.1 _ ?_
    rw [wp_plain _ _ (by omega) h2]; exact congrArg _ (by dsimp only; omega)
  rw [dif_neg (by omega), dif_pos (by omega)]
  after_reads_at
  rw [← hv]
  refine col_at m c k n.1 _ ?_
  rw [wp_plain _ _ (by omega) h2]; exact congrArg _ (by dsimp only; omega)

end Cert.InHost
-- ==== Proof.InHost2.lean ====
module

public import proofs.«01_k».proof.Proof.Gen.InKernelIdeal.Value
public import proofs.«01_k».proof.Proof.InOut
public import proofs.«01_k».proof.Proof.InForm
public import Idealize.ShloMosaic.Lib.StableHlo.ReadAt

@[expose] public section

set_option maxRecDepth 16384

noncomputable section

/-! The gains, the heads' matrix and the tables of the rotation that the program prepares for the input projection. -/

namespace Cert.InHost

open Cert.InKernelIdeal Cert.InKernelIdeal.Gen Idealize.ShloMosaic Idealize.ShloMosaic.TcCoe Cert.InSpec Cert.InForm

variable (m : (ℓ : Loc nD τ sig) → Buf (Elt Ideal) ℓ)

theorem table_cos (c : Dev nD) (s : Fin 4096) (l : Fin 128) : V m c main_v68 (ix2 s l) = cosT s.1 l.1 := by
  generalize hv : cosT s.1 l.1 = v
  unfold V
  after_reads_at
  after_reads_at
  rw [← hv]
  unfold cosT
  split_ifs
  all_goals exact congrArg (fun j => Ideal.cos (ang s.1 j)) (by omega)

theorem table_sin (c : Dev nD) (s : Fin 4096) (l : Fin 128) : V m c main_v72 (ix2 s l) = sinT s.1 l.1 := by
  generalize hv : sinT s.1 l.1 = v
  unfold V
  after_reads_at
  after_reads_at
  rw [← hv]
  unfold sinT
  by_cases h1 : l.1 < 32
  · rw [dif_pos h1, if_pos (by omega)]
    exact congrArg (fun j => -Ideal.sin (ang s.1 j)) (by omega)
  rw [dif_neg h1]
  by_cases h2 : l.1 - 32 < 32
  · rw [dif_pos h2, if_neg (by omega)]
    exact congrArg (fun j => Ideal.sin (ang s.1 j)) (by omega)
  rw [dif_neg h2]
  by_cases h3 : l.1 - 32 - 32 < 32
  · rw [dif_pos h3, if_pos (by omega)]
    exact congrArg (fun j => -Ideal.sin (ang s.1 j)) (by omega)
  rw [dif_neg h3, if_neg (by omega)]
  exact congrArg (fun j => Ideal.sin (ang s.1 j)) (by omega)

/-- Division by 64 rounded down, on a word, as the program spells it. -/
def headOf (k : BitVec 32) : BitVec 32 :=
  Scalar.select (IntOp.andi
      (IntOp.cmpi .ne (if k = 0 then 0 else if k.msb = true then -1 else 1 : BitVec 32)
        (if (64#32 : BitVec 32) = 0 then 0 else if (64#32 : BitVec 32).msb = true then -1 else 1 : BitVec 32))
      (IntOp.cmpi .ne (IntOp.remsi ArithUnit.host k 64#32) 0#32))
    (IntOp.subi (IntOp.divsi ArithUnit.host k 64#32) 1#32) (IntOp.divsi ArithUnit.host k 64#32)

theorem headOf_eq : ∀ k : Fin 256, headOf (BitVec.ofNat 32 k.1) = BitVec.ofNat 32 (k.1 / 64) := by decide +kernel

theorem same_head : ∀ a b : Fin 4, IntOp.cmpi .eq (BitVec.ofNat 32 a.1) (BitVec.ofNat 32 b.1)
    = if a.1 = b.1 then 1#1 else 0#1 := by decide +kernel

/-- The heads' matrix holds the share where row and column lie in one head. -/
theorem heads (c : Dev nD) (k l : Fin 256) : V m c main_v52 (ix2 k l) = if k.1 / 64 = l.1 / 64 then share else 0 := by
  generalize hv : (if k.1 / 64 = l.1 / 64 then share else 0) = v
  unfold V
  after_reads_at
  rw [← hv]
  show Scalar.select (IntOp.cmpi .eq (headOf (BitVec.ofNat 32 k.1)) (headOf (BitVec.ofNat 32 l.1))) share 0 = _
  rw [headOf_eq, headOf_eq, same_head ⟨k.1 / 64, by omega⟩ ⟨l.1 / 64, by omega⟩]
  by_cases h : k.1 / 64 = l.1 / 64
  · rw [if_pos h, if_pos h]; rfl
  · rw [if_neg h, if_neg h]; rfl

theorem norm_gain (c : Dev nD) (n : Fin 1024) : V m c main_v73 (ix2 0 n)
    = (m ((c : Thread nD τ).loc main_arg1) : Vec Ideal S1024 .f32) (ix1 n) := by
  unfold V
  after_reads_at

end Cert.InHost
-- ==== Proof.InReads.lean ====
module

public import proofs.«01_k».proof.Proof.InHost
public import proofs.«01_k».proof.Proof.InHost2

@[expose] public section

set_option maxRecDepth 16384

noncomputable section

/-! What a grid point's blocks hold, in terms of the call's arguments: point `t` is batch `t / 8` and the block of 512 rows
    number `t % 8`. -/

namespace Cert.InReads

open Cert.InKernelIdeal Cert.InKernelIdeal.Gen Idealize.ShloMosaic Idealize.ShloMosaic.TcCoe Cert.InSpec Cert.InForm Cert.InBlk
open Cert.InHost

variable (m : (ℓ : Loc nD τ sig) → Buf (Elt Ideal) ℓ)

/-- An index of three coordinates from the coordinates' values. -/
theorem ext3 {A B C : Nat} (e : (⟨3, ![A, B, C]⟩ : Shape).Idx) (i : Fin A) (j : Fin B) (k : Fin C)
    (h0 : (e 0 : Nat) = i.1) (h1 : (e 1 : Nat) = j.1) (h2 : (e 2 : Nat) = k.1) : e = ix3 i j k := by
  funext a; match a with | ⟨0, _⟩ => exact Fin.ext h0 | ⟨1, _⟩ => exact Fin.ext h1 | ⟨2, _⟩ => exact Fin.ext h2

/-- An index of two coordinates from the coordinates' values. -/
theorem ext2 {A B : Nat} (e : (⟨2, ![A, B]⟩ : Shape).Idx) (i : Fin A) (j : Fin B)
    (h0 : (e 0 : Nat) = i.1) (h1 : (e 1 : Nat) = j.1) : e = ix2 i j := by
  funext a; match a with | ⟨0, _⟩ => exact Fin.ext h0 | ⟨1, _⟩ => exact Fin.ext h1

/-- An index of four coordinates from the coordinates' values. -/
theorem ext4 {A B C D : Nat} (e : (⟨4, ![A, B, C, D]⟩ : Shape).Idx) (i : Fin A) (j : Fin B) (k : Fin C) (l : Fin D)
    (h0 : (e 0 : Nat) = i.1) (h1 : (e 1 : Nat) = j.1) (h2 : (e 2 : Nat) = k.1) (h3 : (e 3 : Nat) = l.1) :
    e = ix4 i j k l := by
  funext a
  match a with
  | ⟨0, _⟩ => exact Fin.ext h0 | ⟨1, _⟩ => exact Fin.ext h1 | ⟨2, _⟩ => exact Fin.ext h2 | ⟨3, _⟩ => exact Fin.ext h3

theorem lt32 (t : Fin grid0.N) : t.1 < 32 := t.isLt.trans_eq N_0

/-- The batch of a grid point. -/
def bi (t : Fin grid0.N) : Fin 4 := ⟨t.1 / 8, by have := lt32 t; omega⟩
/-- Row `r` of its block, as a row of the sequence. -/
def si (t : Fin grid0.N) (r : Fin 512) : Fin 4096 := ⟨512 * (t.1 % 8) + r.1, by omega⟩

theorem ix_0 : ∀ t : Fin grid0.N, win0_0.index t 0 * win0_0.size 0 = t.1 / 8
    ∧ win0_0.index t 1 * win0_0.size 1 = 512 * (t.1 % 8) ∧ win0_0.index t 2 * win0_0.size 2 = 0 := by decide +kernel
theorem ix_1 : ∀ t : Fin grid0.N, win0_1.index t 0 * win0_1.size 0 = 0 ∧ win0_1.index t 1 * win0_1.size 1 = 0 := by
  decide +kernel
theorem ix_2 : ∀ t : Fin grid0.N, win0_2.index t 0 * win0_2.size 0 = 0 ∧ win0_2.index t 1 * win0_2.size 1 = 0 := by
  decide +kernel
theorem rd_0 (c : Dev nD) (t : Fin cfg0.N) (r : Fin 512) (n : Fin 1024) :
    iblk m c 0 t (ix3 0 r n) = (args m c).x (bi t) (si t r) n := by
  show V m c main_arg0 ((win0_0.rect t).emb (ix3 0 r n)) = _
  rw [V_main_arg0]
  obtain ⟨e0, e1, e2⟩ := ix_0 t
  refine congrArg _ (ext3 _ (bi t) (si t r) n ?_ ?_ ?_)
  · refine (Pipeline.Window.rect_emb_val win0_0 t _ 0).trans ?_; rw [e0]; rfl
  · refine (Pipeline.Window.rect_emb_val win0_0 t _ 1).trans ?_; rw [e1]; rfl
  · refine (Pipeline.Window.rect_emb_val win0_0 t _ 2).trans ?_; rw [e2]; exact Nat.zero_add _

theorem rd_1 (c : Dev nD) (t : Fin cfg0.N) (n : Fin 1024) : iblk m c 1 t (ix2 0 n) = (args m c).g n := by
  show V m c main_v73 ((win0_1.rect t).emb (ix2 0 n)) = _
  obtain ⟨e0, e1⟩ := ix_1 t
  refine (congrArg _ (ext2 _ 0 n ?_ ?_)).trans (norm_gain m c n)
  · refine (Pipeline.Window.rect_emb_val win0_1 t _ 0).trans ?_; rw [e0]; rfl
  · refine (Pipeline.Window.rect_emb_val win0_1 t _ 1).trans ?_; rw [e1]; exact Nat.zero_add _

theorem rd_2 (c : Dev nD) (t : Fin cfg0.N) (k : Fin 1024) (n : Fin 6656) (h1 : 2688 ≤ n.1) (h2 : n.1 < 5888) :
    iblk m c 2 t (ix2 k n) = (args m c).wp k n.1 := by
  show V m c main_v22 ((win0_2.rect t).emb (ix2 k n)) = _
  obtain ⟨e0, e1⟩ := ix_2 t
  refine (congrArg _ (ext2 _ k n ?_ ?_)).trans (weights m c k n h1 h2)
  · refine (Pipeline.Window.rect_emb_val win0_2 t _ 0).trans ?_; rw [e0]; exact Nat.zero_add _
  · refine (Pipeline.Window.rect_emb_val win0_2 t _ 1).trans ?_; rw [e1]; exact Nat.zero_add _

/-- A block's projected columns are the call's. -/
theorem P_eq (c : Dev nD) (t : Fin cfg0.N) (r : Fin 512) (n : Nat) (h1 : 2688 ≤ n) (h2 : n < 5888) :
    P (iblk m c 0 t) (iblk m c 1 t) (iblk m c 2 t) r n = (args m c).P (bi t) (si t r) n := by
  have hw : ∀ k, wcol (iblk m c 2 t) k n = (args m c).wp k n := by
    intro k
    unfold wcol
    rw [dif_pos (by omega)]
    exact rd_2 m c t k ⟨n, by omega⟩ h1 h2
  have hh : hrow (iblk m c 0 t) (iblk m c 1 t) r = (args m c).h (bi t) (si t r) := by
    unfold hrow Args.h
    have e0 : (fun n => iblk m c 0 t (ix3 0 r n)) = (args m c).x (bi t) (si t r) := funext fun n => rd_0 m c t r n
    have e1 : (fun n => iblk m c 1 t (ix2 0 n)) = (args m c).g := funext fun n => rd_1 m c t n
    exact congrArg₂ normed e0 e1
  unfold P Args.P
  rw [hh]
  unfold proj
  exact Finset.sum_congr rfl fun k _ => congrArg _ (hw k)

end Cert.InReads
-- ==== Proof.InKer.lean ====
module

public import proofs.«01_k».proof.Proof.InReads
public import proofs.«01_k».proof.Proof.InOut

@[expose] public section

set_option maxRecDepth 16384

noncomputable section

/-! Four of the kernel's result arrays, in closed form over the call's arguments. -/

namespace Cert.InKer

open Cert.InKernelIdeal Cert.InKernelIdeal.Gen Idealize.ShloMosaic Idealize.ShloMosaic.TcCoe Cert.InSpec Cert.InForm Cert.InBlk
open Cert.InHost Cert.InReads

variable (m : (ℓ : Loc nD τ sig) → Buf (Elt Ideal) ℓ)

/-- The compressed branch's keys and values. -/
def Gkvc (c : Dev nD) : Vec Ideal S4x4096x384 .f32 := fun i => (args m c).P (i 0) (i 1) (2688 + (i 2 : Nat))
/-- The dilated groups' values. -/
def Gvb (c : Dev nD) : Vec Ideal S4x4096x768 .f32 := fun i => (args m c).P (i 0) (i 1) (3072 + (i 2 : Nat))
/-- The first mixer's gate. -/
def Ggma (c : Dev nD) : Vec Ideal S4x4096x1024 .bf16 := fun i =>
  Ideal.logistic ((args m c).P (i 0) (i 1) (3840 + (i 2 : Nat)))
/-- The second mixer's gate. -/
def Ggmb (c : Dev nD) : Vec Ideal S4x4096x1024 .bf16 := fun i =>
  Ideal.logistic ((args m c).P (i 0) (i 1) (4864 + (i 2 : Nat)))

theorem ix_12 : ∀ t : Fin grid0.N, (win0_12.index t 0 * win0_12.size 0 = t.1 / 8
    ∧ win0_12.index t 1 * win0_12.size 1 = 512 * (t.1 % 8) ∧ win0_12.index t 2 * win0_12.size 2 = 0)
    ∧ win0_12.xsize (grid0.coords t) 0 = 1 ∧ win0_12.xsize (grid0.coords t) 1 = 512
    ∧ win0_12.xsize (grid0.coords t) 2 = 384 := by decide +kernel

/-- What a grid point writes back is its block of the result array. -/
theorem flushed_kvc (c : Dev nD) (t : Fin cfg0.N) :
    (dats m 0 c).flushed 12 t = (win0_12.blk t).view.read (Elt Ideal) (Gkvc m c) := by
  rw [Value.flushed12_A]
  funext (y : S1x512x384.Idx)
  show out0_A_12 (F := Ideal) c (grid0.coords t) _ _ _ _ _ _ _ _ _ _ _ _ _ _ _ _ _ _ _ _ _ _ _ _ _ _ _ _ _ _ _ _ _ _ _ _ _ _
    _ _ _ _ _ _ _ y = Gkvc m c ((win0_12.rect t).emb y)
  obtain ⟨r, n, rfl⟩ : ∃ (r : Fin 512) (n : Fin 384), y = ix3 0 r n :=
    ⟨y 1, y 2, ext3 y 0 (y 1) (y 2) (by have : (y 0 : Nat) < 1 := (y 0).isLt; show (y 0 : Nat) = 0; omega) rfl rfl⟩
  obtain ⟨⟨e0, e1, e2⟩, -⟩ := ix_12 t
  have he : (win0_12.rect t).emb (ix3 0 r n) = ix3 (bi t) (si t r) n := by
    refine ext3 _ _ _ _ ?_ ?_ ?_
    · refine (Pipeline.Window.rect_emb_val win0_12 t _ 0).trans ?_; rw [e0]; rfl
    · refine (Pipeline.Window.rect_emb_val win0_12 t _ 1).trans ?_; rw [e1]; rfl
    · refine (Pipeline.Window.rect_emb_val win0_12 t _ 2).trans ?_; rw [e2]; exact Nat.zero_add _
  rw [he, InOut.kvc_apply]
  exact P_eq m c t r (2688 + n.1) (by omega) (by omega)

/-- The grid's blocks tile the result array. -/
theorem cover_kvc (i : S4x4096x384.Idx) :
    ∃ t : Fin cfg0.N, (cfg0.win 12).flush t = true ∧ i ∈ ((cfg0.win 12).blk t).view.set := by
  have h0 : (i 0 : Nat) < 4 := (i 0).isLt
  have h1 : (i 1 : Nat) < 4096 := (i 1).isLt
  have h2 : (i 2 : Nat) < 384 := (i 2).isLt
  have hN : cfg0.N = 32 := N_0
  obtain ⟨t, ht⟩ : ∃ t : Fin cfg0.N, t.1 = (i 0 : Nat) * 8 + (i 1 : Nat) / 512 := ⟨⟨_, by omega⟩, rfl⟩
  refine ⟨t, flush0_12 _, ?_⟩
  show i ∈ ((View.whole main_v74_5).slice (win0_12.rect t)).set
  rw [View.set_slice_whole, Rect.mem_set_unit]
  obtain ⟨⟨e0, e1, e2⟩, f0, f1, f2⟩ := ix_12 t
  intro a
  match a with
  | ⟨0, _⟩ =>
    show win0_12.index t 0 * win0_12.size 0 ≤ (i 0 : Nat)
      ∧ (i 0 : Nat) < win0_12.index t 0 * win0_12.size 0 + win0_12.xsize (grid0.coords t) 0
    rw [e0, f0]; omega
  | ⟨1, _⟩ =>
    show win0_12.index t 1 * win0_12.size 1 ≤ (i 1 : Nat)
      ∧ (i 1 : Nat) < win0_12.index t 1 * win0_12.size 1 + win0_12.xsize (grid0.coords t) 1
    rw [e1, f1]; omega
  | ⟨2, _⟩ =>
    show win0_12.index t 2 * win0_12.size 2 ≤ (i 2 : Nat)
      ∧ (i 2 : Nat) < win0_12.index t 2 * win0_12.size 2 + win0_12.xsize (grid0.coords t) 2
    rw [e2, f2]; omega

theorem final_kvc (c : Dev nD) : (dats m 0 c).arrAt 12 cfg0.N = Gkvc m c :=
  (dats m 0 c).arrAt_eq_of_cover 12 (Gkvc m c) (fun t _ => flushed_kvc m c t) cover_kvc

theorem ix_13 : ∀ t : Fin grid0.N, (win0_13.index t 0 * win0_13.size 0 = t.1 / 8
    ∧ win0_13.index t 1 * win0_13.size 1 = 512 * (t.1 % 8) ∧ win0_13.index t 2 * win0_13.size 2 = 0)
    ∧ win0_13.xsize (grid0.coords t) 0 = 1 ∧ win0_13.xsize (grid0.coords t) 1 = 512
    ∧ win0_13.xsize (grid0.coords t) 2 = 768 := by decide +kernel

/-- What a grid point writes back is its block of the result array. -/
theorem flushed_vb (c : Dev nD) (t : Fin cfg0.N) :
    (dats m 0 c).flushed 13 t = (win0_13.blk t).view.read (Elt Ideal) (Gvb m c) := by
  rw [Value.flushed13_A]
  funext (y : S1x512x768.Idx)
  show out0_A_13 (F := Ideal) c (grid0.coords t) _ _ _ _ _ _ _ _ _ _ _ _ _ _ _ _ _ _ _ _ _ _ _ _ _ _ _ _ _ _ _ _ _ _ _ _ _ _
    _ _ _ _ _ _ _ y = Gvb m c ((win0_13.rect t).emb y)
  obtain ⟨r, n, rfl⟩ : ∃ (r : Fin 512) (n : Fin 768), y = ix3 0 r n :=
    ⟨y 1, y 2, ext3 y 0 (y 1) (y 2) (by have : (y 0 : Nat) < 1 := (y 0).isLt; show (y 0 : Nat) = 0; omega) rfl rfl⟩
  obtain ⟨⟨e0, e1, e2⟩, -⟩ := ix_13 t
  have he : (win0_13.rect t).emb (ix3 0 r n) = ix3 (bi t) (si t r) n := by
    refine ext3 _ _ _ _ ?_ ?_ ?_
    · refine (Pipeline.Window.rect_emb_val win0_13 t _ 0).trans ?_; rw [e0]; rfl
    · refine (Pipeline.Window.rect_emb_val win0_13 t _ 1).trans ?_; rw [e1]; rfl
    · refine (Pipeline.Window.rect_emb_val win0_13 t _ 2).trans ?_; rw [e2]; exact Nat.zero_add _
  rw [he, InOut.vb_apply]
  exact P_eq m c t r (3072 + n.1) (by omega) (by omega)

/-- The grid's blocks tile the result array. -/
theorem cover_vb (i : S4x4096x768.Idx) :
    ∃ t : Fin cfg0.N, (cfg0.win 13).flush t = true ∧ i ∈ ((cfg0.win 13).blk t).view.set := by
  have h0 : (i 0 : Nat) < 4 := (i 0).isLt
  have h1 : (i 1 : Nat) < 4096 := (i 1).isLt
  have h2 : (i 2 : Nat) < 768 := (i 2).isLt
  have hN : cfg0.N = 32 := N_0
  obtain ⟨t, ht⟩ : ∃ t : Fin cfg0.N, t.1 = (i 0 : Nat) * 8 + (i 1 : Nat) / 512 := ⟨⟨_, by omega⟩, rfl⟩
  refine ⟨t, flush0_13 _, ?_⟩
  show i ∈ ((View.whole main_v74_6).slice (win0_13.rect t)).set
  rw [View.set_slice_whole, Rect.mem_set_unit]
  obtain ⟨⟨e0, e1, e2⟩, f0, f1, f2⟩ := ix_13 t
  intro a
  match a with
  | ⟨0, _⟩ =>
    show win0_13.index t 0 * win0_13.size 0 ≤ (i 0 : Nat)
      ∧ (i 0 : Nat) < win0_13.index t 0 * win0_13.size 0 + win0_13.xsize (grid0.coords t) 0
    rw [e0, f0]; omega
  | ⟨1, _⟩ =>
    show win0_13.index t 1 * win0_13.size 1 ≤ (i 1 : Nat)
      ∧ (i 1 : Nat) < win0_13.index t 1 * win0_13.size 1 + win0_13.xsize (grid0.coords t) 1
    rw [e1, f1]; omega
  | ⟨2, _⟩ =>
    show win0_13.index t 2 * win0_13.size 2 ≤ (i 2 : Nat)
      ∧ (i 2 : Nat) < win0_13.index t 2 * win0_13.size 2 + win0_13.xsize (grid0.coords t) 2
    rw [e2, f2]; omega

theorem final_vb (c : Dev nD) : (dats m 0 c).arrAt 13 cfg0.N = Gvb m c :=
  (dats m 0 c).arrAt_eq_of_cover 13 (Gvb m c) (fun t _ => flushed_vb m c t) cover_vb

theorem ix_14 : ∀ t : Fin grid0.N, (win0_14.index t 0 * win0_14.size 0 = t.1 / 8
    ∧ win0_14.index t 1 * win0_14.size 1 = 512 * (t.1 % 8) ∧ win0_14.index t 2 * win0_14.size 2 = 0)
    ∧ win0_14.xsize (grid0.coords t) 0 = 1 ∧ win0_14.xsize (grid0.coords t) 1 = 512
    ∧ win0_14.xsize (grid0.coords t) 2 = 1024 := by decide +kernel

/-- What a grid point writes back is its block of the result array. -/
theorem flushed_gma (c : Dev nD) (t : Fin cfg0.N) :
    (dats m 0 c).flushed 14 t = (win0_14.blk t).view.read (Elt Ideal) (Ggma m c) := by
  rw [Value.flushed14_A]
  funext (y : S1x512x1024.Idx)
  show out0_A_14 (F := Ideal) c (grid0.coords t) _ _ _ _ _ _ _ _ _ _ _ _ _ _ _ _ _ _ _ _ _ _ _ _ _ _ _ _ _ _ _ _ _ _ _ _ _ _
    _ _ _ _ _ _ _ y = Ggma m c ((win0_14.rect t).emb y)
  obtain ⟨r, n, rfl⟩ : ∃ (r : Fin 512) (n : Fin 1024), y = ix3 0 r n :=
    ⟨y 1, y 2, ext3 y 0 (y 1) (y 2) (by have : (y 0 : Nat) < 1 := (y 0).isLt; show (y 0 : Nat) = 0; omega) rfl rfl⟩
  obtain ⟨⟨e0, e1, e2⟩, -⟩ := ix_14 t
  have he : (win0_14.rect t).emb (ix3 0 r n) = ix3 (bi t) (si t r) n := by
    refine ext3 _ _ _ _ ?_ ?_ ?_
    · refine (Pipeline.Window.rect_emb_val win0_14 t _ 0).trans ?_; rw [e0]; rfl
    · refine (Pipeline.Window.rect_emb_val win0_14 t _ 1).trans ?_; rw [e1]; rfl
    · refine (Pipeline.Window.rect_emb_val win0_14 t _ 2).trans ?_; rw [e2]; exact Nat.zero_add _
  rw [he, InOut.gma_apply]
  exact congrArg Ideal.logistic (P_eq m c t r (3840 + n.1) (by omega) (by omega))

/-- The grid's blocks tile the result array. -/
theorem cover_gma (i : S4x4096x1024.Idx) :
    ∃ t : Fin cfg0.N, (cfg0.win 14).flush t = true ∧ i ∈ ((cfg0.win 14).blk t).view.set := by
  have h0 : (i 0 : Nat) < 4 := (i 0).isLt
  have h1 : (i 1 : Nat) < 4096 := (i 1).isLt
  have h2 : (i 2 : Nat) < 1024 := (i 2).isLt
  have hN : cfg0.N = 32 := N_0
  obtain ⟨t, ht⟩ : ∃ t : Fin cfg0.N, t.1 = (i 0 : Nat) * 8 + (i 1 : Nat) / 512 := ⟨⟨_, by omega⟩, rfl⟩
  refine ⟨t, flush0_14 _, ?_⟩
  show i ∈ ((View.whole main_v74_7).slice (win0_14.rect t)).set
  rw [View.set_slice_whole, Rect.mem_set_unit]
  obtain ⟨⟨e0, e1, e2⟩, f0, f1, f2⟩ := ix_14 t
  intro a
  match a with
  | ⟨0, _⟩ =>
    show win0_14.index t 0 * win0_14.size 0 ≤ (i 0 : Nat)
      ∧ (i 0 : Nat) < win0_14.index t 0 * win0_14.size 0 + win0_14.xsize (grid0.coords t) 0
    rw [e0, f0]; omega
  | ⟨1, _⟩ =>
    show win0_14.index t 1 * win0_14.size 1 ≤ (i 1 : Nat)
      ∧ (i 1 : Nat) < win0_14.index t 1 * win0_14.size 1 + win0_14.xsize (grid0.coords t) 1
    rw [e1, f1]; omega
  | ⟨2, _⟩ =>
    show win0_14.index t 2 * win0_14.size 2 ≤ (i 2 : Nat)
      ∧ (i 2 : Nat) < win0_14.index t 2 * win0_14.size 2 + win0_14.xsize (grid0.coords t) 2
    rw [e2, f2]; omega

theorem final_gma (c : Dev nD) : (dats m 0 c).arrAt 14 cfg0.N = Ggma m c :=
  (dats m 0 c).arrAt_eq_of_cover 14 (Ggma m c) (fun t _ => flushed_gma m c t) cover_gma

theorem ix_15 : ∀ t : Fin grid0.N, (win0_15.index t 0 * win0_15.size 0 = t.1 / 8
    ∧ win0_15.index t 1 * win0_15.size 1 = 512 * (t.1 % 8) ∧ win0_15.index t 2 * win0_15.size 2 = 0)
    ∧ win0_15.xsize (grid0.coords t) 0 = 1 ∧ win0_15.xsize (grid0.coords t) 1 = 512
    ∧ win0_15.xsize (grid0.coords t) 2 = 1024 := by decide +kernel

/-- What a grid point writes back is its block of the result array. -/
theorem flushed_gmb (c : Dev nD) (t : Fin cfg0.N) :
    (dats m 0 c).flushed 15 t = (win0_15.blk t).view.read (Elt Ideal) (Ggmb m c) := by
  rw [Value.flushed15_A]
  funext (y : S1x512x1024.Idx)
  show out0_A_15 (F := Ideal) c (grid0.coords t) _ _ _ _ _ _ _ _ _ _ _ _ _ _ _ _ _ _ _ _ _ _ _ _ _ _ _ _ _ _ _ _ _ _ _ _ _ _
    _ _ _ _ _ _ _ y = Ggmb m c ((win0_15.rect t).emb y)
  obtain ⟨r, n, rfl⟩ : ∃ (r : Fin 512) (n : Fin 1024), y = ix3 0 r n :=
    ⟨y 1, y 2, ext3 y 0 (y 1) (y 2) (by have : (y 0 : Nat) < 1 := (y 0).isLt; show (y 0 : Nat) = 0; omega) rfl rfl⟩
  obtain ⟨⟨e0, e1, e2⟩, -⟩ := ix_15 t
  have he : (win0_15.rect t).emb (ix3 0 r n) = ix3 (bi t) (si t r) n := by
    refine ext3 _ _ _ _ ?_ ?_ ?_
    · refine (Pipeline.Window.rect_emb_val win0_15 t _ 0).trans ?_; rw [e0]; rfl
    · refine (Pipeline.Window.rect_emb_val win0_15 t _ 1).trans ?_; rw [e1]; rfl
    · refine (Pipeline.Window.rect_emb_val win0_15 t _ 2).trans ?_; rw [e2]; exact Nat.zero_add _
  rw [he, InOut.gmb_apply]
  exact congrArg Ideal.logistic (P_eq m c t r (4864 + n.1) (by omega) (by omega))

/-- The grid's blocks tile the result array. -/
theorem cover_gmb (i : S4x4096x1024.Idx) :
    ∃ t : Fin cfg0.N, (cfg0.win 15).flush t = true ∧ i ∈ ((cfg0.win 15).blk t).view.set := by
  have h0 : (i 0 : Nat) < 4 := (i 0).isLt
  have h1 : (i 1 : Nat) < 4096 := (i 1).isLt
  have h2 : (i 2 : Nat) < 1024 := (i 2).isLt
  have hN : cfg0.N = 32 := N_0
  obtain ⟨t, ht⟩ : ∃ t : Fin cfg0.N, t.1 = (i 0 : Nat) * 8 + (i 1 : Nat) / 512 := ⟨⟨_, by omega⟩, rfl⟩
  refine ⟨t, flush0_15 _, ?_⟩
  show i ∈ ((View.whole main_v74_8).slice (win0_15.rect t)).set
  rw [View.set_slice_whole, Rect.mem_set_unit]
  obtain ⟨⟨e0, e1, e2⟩, f0, f1, f2⟩ := ix_15 t
  intro a
  match a with
  | ⟨0, _⟩ =>
    show win0_15.index t 0 * win0_15.size 0 ≤ (i 0 : Nat)
      ∧ (i 0 : Nat) < win0_15.index t 0 * win0_15.size 0 + win0_15.xsize (grid0.coords t) 0
    rw [e0, f0]; omega
  | ⟨1, _⟩ =>
    show win0_15.index t 1 * win0_15.size 1 ≤ (i 1 : Nat)
      ∧ (i 1 : Nat) < win0_15.index t 1 * win0_15.size 1 + win0_15.xsize (grid0.coords t) 1
    rw [e1, f1]; omega
  | ⟨2, _⟩ =>
    show win0_15.index t 2 * win0_15.size 2 ≤ (i 2 : Nat)
      ∧ (i 2 : Nat) < win0_15.index t 2 * win0_15.size 2 + win0_15.xsize (grid0.coords t) 2
    rw [e2, f2]; omega

theorem final_gmb (c : Dev nD) : (dats m 0 c).arrAt 15 cfg0.N = Ggmb m c :=
  (dats m 0 c).arrAt_eq_of_cover 15 (Ggmb m c) (fun t _ => flushed_gmb m c t) cover_gmb

end Cert.InKer
-- ==== Proof.InRef.lean ====
module

public import proofs.«01_k».proof.Proof.InForm
public import proofs.«01_k».proof.Proof.Gen.InReferenceIdeal.Read
public import Idealize.ShloMosaic.Lib.Pointwise

@[expose] public section

set_option maxRecDepth 16384

noncomputable section

/-! The reference's results, index by index. -/

namespace Cert.InRef

open Cert.InReferenceIdeal Cert.InReferenceIdeal.Gen Cert.InReferenceIdeal.Read Idealize.ShloMosaic Cert.InSpec

variable (x0 : Vec Ideal S4x4096x1024 .f32) (x1 : Vec Ideal S1024 .f32) (x2 : Vec Ideal S1024x6308 .f32)

theorem one_bits : Ideal.ofBits .f32 0x3F800000#32 = 1 := by
  simp [Ideal.ofBits, Ideal.ieee, -EReal.coe_mul]; norm_num

/-- A projected column. -/
def col (b : Fin 4) (s : Fin 4096) (n : Fin 6308) : EReal :=
  ∑ k : Fin 1024, normed (fun n => x0 (ix3 b s n)) (fun n => x1 (ix1 n)) k * x2 (ix2 k n)

/-- The sum of a row's squares. -/
theorem v1_at (b : Fin 4) (s : Fin 4096) :
    val_main_v1 (F := Ideal) x0 (ix2 b s) = ∑ k : Fin 1024, x0 (ix3 b s k) * x0 (ix3 b s k) := by
  unfold val_main_v1 val_main_v0 val_main_cst
  pointwise

/-- The normalized row. -/
theorem v12_at (b : Fin 4) (s : Fin 4096) (n : Fin 1024) :
    val_main_v12 (F := Ideal) x0 x1 (ix3 b s n) = normed (fun n => x0 (ix3 b s n)) (fun n => x1 (ix1 n)) n := by
  unfold normed
  rw [← v1_at]
  unfold val_main_v12 val_main_v11 val_main_v10 val_main_v9 val_main_v8 val_main_v7 val_main_v6 val_main_v5 val_main_v4
    val_main_v3 val_main_v2 val_main_cst_0 val_main_cst_1
  generalize val_main_v1 (F := Ideal) x0 = y
  pointwise

/-- The projection. -/
theorem v13_at (b : Fin 4) (s : Fin 4096) (n : Fin 6308) :
    val_main_v13 (F := Ideal) x0 x1 x2 (ix3 b s n) = col x0 x1 x2 b s n := by
  unfold col
  simp only [← v12_at]
  unfold val_main_v13
  generalize val_main_v12 (F := Ideal) x0 x1 = y
  pointwise

/-- The keys and the values of the compressed branch, side by side. -/
theorem v27_at (b : Fin 4) (s : Fin 4096) (n : Fin 384) :
    val_main_v27 (F := Ideal) x0 x1 x2 (ix3 b s n) = col x0 x1 x2 b s ⟨768 + n.1, by omega⟩ := by
  rw [← v13_at]
  unfold val_main_v27 val_main_v15 val_main_v16
  generalize val_main_v13 (F := Ideal) x0 x1 x2 = y
  pointwise
  by_cases h : n.1 < 192
  · exact dif_pos h
  · refine (dif_neg h).trans (congrArg (fun j => y (ix3 b s j)) (Fin.ext ?_))
    dsimp only
    omega

/-- The dilated groups' values. -/
theorem v24_at (b : Fin 4) (s : Fin 4096) (n : Fin 768) :
    val_main_v24 (F := Ideal) x0 x1 x2 (ix3 b s n) = col x0 x1 x2 b s ⟨3492 + n.1, by omega⟩ := by
  rw [← v13_at]
  unfold val_main_v24
  generalize val_main_v13 (F := Ideal) x0 x1 x2 = y
  pointwise

/-- The first mixer's gate. -/
theorem v34_at (b : Fin 4) (s : Fin 4096) (n : Fin 1024) :
    val_main_v34 (F := Ideal) x0 x1 x2 (ix3 b s n) = Ideal.logistic (col x0 x1 x2 b s ⟨4260 + n.1, by omega⟩) := by
  unfold Ideal.logistic
  rw [← v13_at, ← one_bits]
  unfold val_main_v34 val_main_v33 val_main_v32 val_main_v31 val_main_v30 val_main_v29 val_main_v28 val_main_v25
    val_main_cst_2 val_main_cst_3
  generalize val_main_v13 (F := Ideal) x0 x1 x2 = y
  pointwise

/-- The second mixer's gate. -/
theorem v41_at (b : Fin 4) (s : Fin 4096) (n : Fin 1024) :
    val_main_v41 (F := Ideal) x0 x1 x2 (ix3 b s n) = Ideal.logistic (col x0 x1 x2 b s ⟨5284 + n.1, by omega⟩) := by
  unfold Ideal.logistic
  rw [← v13_at, ← one_bits]
  unfold val_main_v41 val_main_v40 val_main_v39 val_main_v38 val_main_v37 val_main_v36 val_main_v35 val_main_v26
    val_main_cst_4 val_main_cst_5
  generalize val_main_v13 (F := Ideal) x0 x1 x2 = y
  pointwise

end Cert.InRef
-- ==== Proof.InClaim.lean ====
module

public import proofs.«01_k».proof.Defs
public import proofs.«01_k».proof.Proof.InKer
public import proofs.«01_k».proof.Proof.InRef

@[expose] public section

set_option maxRecDepth 16384

noncomputable section

/-! The value claim of the input projection call, for four of its results. -/

namespace Cert.InClaim

open Cert.InReferenceIdeal.Read Idealize.ShloMosaic Idealize.ShloMosaic.TcCoe Cert.InSpec Cert.InForm Cert.InHost Cert.InKer

variable (m : (ℓ : Loc Cert.InKernelIdeal.nD Cert.InKernelIdeal.τ Cert.InKernelIdeal.sig) → Buf (Elt Ideal) ℓ)

/-- The input. -/
abbrev a0 (c : Dev Cert.InKernelIdeal.nD) : Vec Ideal Cert.InKernelIdeal.S4x4096x1024 .f32 :=
  m ((c : Thread Cert.InKernelIdeal.nD Cert.InKernelIdeal.τ).loc Cert.InKernelIdeal.main_arg0)
/-- The norm's gain. -/
abbrev a1 (c : Dev Cert.InKernelIdeal.nD) : Vec Ideal Cert.InKernelIdeal.S1024 .f32 :=
  m ((c : Thread Cert.InKernelIdeal.nD Cert.InKernelIdeal.τ).loc Cert.InKernelIdeal.main_arg1)
/-- The weights. -/
abbrev a2 (c : Dev Cert.InKernelIdeal.nD) : Vec Ideal Cert.InKernelIdeal.S1024x6308 .f32 :=
  m ((c : Thread Cert.InKernelIdeal.nD Cert.InKernelIdeal.τ).loc Cert.InKernelIdeal.main_arg2)

/-- A column of the reference's projection is the reordered column that takes its weights. -/
theorem col_eq (c : Dev Cert.InKernelIdeal.nD) (b : Fin 4) (s : Fin 4096) (j : Fin 6308) (n : Nat)
    (h : ∀ k, (args m c).wp k n = (args m c).win k j.1) :
    Cert.InRef.col (a0 m c) (a1 m c) (a2 m c) b s j = (args m c).P b s n := by
  unfold Cert.InRef.col Args.P proj
  exact Finset.sum_congr rfl fun k _ => congrArg₂ (· * ·) rfl (col_at m c k n j (h k))

theorem kvc (c : Dev Cert.InKernelIdeal.nD) : val_main_v27 (F := Ideal) (a0 m c) (a1 m c) (a2 m c) = Gkvc m c := by
  funext i
  obtain ⟨b, s, n, rfl⟩ : ∃ (b : Fin 4) (s : Fin 4096) (n : Fin 384), i = ix3 b s n := ⟨i 0, i 1, i 2, (ix3_eta i).symm⟩
  rw [Cert.InRef.v27_at]
  refine col_eq m c b s _ (2688 + n.1) fun k => (wp_kvc _ k (by omega) (by omega)).trans (congrArg _ ?_)
  dsimp only; omega

theorem vb (c : Dev Cert.InKernelIdeal.nD) : val_main_v24 (F := Ideal) (a0 m c) (a1 m c) (a2 m c) = Gvb m c := by
  funext i
  obtain ⟨b, s, n, rfl⟩ : ∃ (b : Fin 4) (s : Fin 4096) (n : Fin 768), i = ix3 b s n := ⟨i 0, i 1, i 2, (ix3_eta i).symm⟩
  rw [Cert.InRef.v24_at]
  refine col_eq m c b s _ (3072 + n.1) fun k => (wp_plain _ k (by omega) (by omega)).trans (congrArg _ ?_)
  dsimp only; omega

theorem gma (c : Dev Cert.InKernelIdeal.nD) : val_main_v34 (F := Ideal) (a0 m c) (a1 m c) (a2 m c) = Ggma m c := by
  funext i
  obtain ⟨b, s, n, rfl⟩ : ∃ (b : Fin 4) (s : Fin 4096) (n : Fin 1024), i = ix3 b s n := ⟨i 0, i 1, i 2, (ix3_eta i).symm⟩
  rw [Cert.InRef.v34_at]
  refine congrArg Ideal.logistic
    (col_eq m c b s _ (3840 + n.1) fun k => (wp_plain _ k (by omega) (by omega)).trans (congrArg _ ?_))
  dsimp only; omega

theorem gmb (c : Dev Cert.InKernelIdeal.nD) : val_main_v41 (F := Ideal) (a0 m c) (a1 m c) (a2 m c) = Ggmb m c := by
  funext i
  obtain ⟨b, s, n, rfl⟩ : ∃ (b : Fin 4) (s : Fin 4096) (n : Fin 1024), i = ix3 b s n := ⟨i 0, i 1, i 2, (ix3_eta i).symm⟩
  rw [Cert.InRef.v41_at]
  refine congrArg Ideal.logistic
    (col_eq m c b s _ (4864 + n.1) fun k => (wp_plain _ k (by omega) (by omega)).trans (congrArg _ ?_))
  dsimp only; omega

/-- Both programs end with the same four results. -/
theorem algebraic : Cert.algebraic_InKernelIdeal_InReferenceIdeal := fun m ρ m' ρ' _ hag => by
  refine ⟨fun c => Gkvc m c, fun c => Gvb m c, fun c => Ggma m c, fun c => Ggmb m c,
    (θ_run Cert.InKernelIdeal.defs _ _).mono (fun _ h c => ?_) (Cert.InKernelIdeal.Value.run_blocks m ρ),
    (θ_run Cert.InReferenceIdeal.defs _ _).mono (fun _ h c => ?_) (Cert.InReferenceIdeal.Value.run m' ρ')⟩
  · obtain ⟨-, -, -, -, -, k, v, a, b, -, -, -, rest⟩ := h c
    exact ⟨k.trans (final_kvc m c), v.trans (final_vb m c), a.trans (final_gma m c), b.trans (final_gmb m c), rest⟩
  · obtain ⟨k, v, a, b, rest⟩ := h c
    obtain ⟨h0, h1, h2, -⟩ := hag c
    refine ⟨k.trans ?_, v.trans ?_, a.trans ?_, b.trans ?_, rest⟩
    · rw [val_main_v27_eq, h0, h1, h2]; exact kvc m c
    · rw [val_main_v24_eq, h0, h1, h2]; exact vb m c
    · rw [val_main_v34_eq, h0, h1, h2]; exact gma m c
    · rw [val_main_v41_eq, h0, h1, h2]; exact gmb m c

end Cert.InClaim
-- ==== Proof.lean ====
module

public import proofs.«01_k».proof.Defs
public import proofs.«01_k».proof.Proof.Gen.MlpKernel.Frame
public import proofs.«01_k».proof.Proof.Gen.MlpKernelIdeal.Frame
public import proofs.«01_k».proof.Proof.Gen.MlpReferenceIdeal.Run
public import proofs.«01_k».proof.Proof.Gen.Pre_lse_finite
public import proofs.«01_k».proof.Proof.MlpClaim
public import proofs.«01_k».proof.Proof.Gen.InKernel.Frame
public import proofs.«01_k».proof.Proof.Gen.InKernelIdeal.Value
public import proofs.«01_k».proof.Proof.Gen.InReferenceIdeal.Run
public import proofs.«01_k».proof.Proof.Gen.InReferenceIdeal.Read
public import proofs.«01_k».proof.Proof.InClaim

@[expose] public section

noncomputable section

namespace Cert.Proof

open Idealize.ShloMosaic Idealize.SL.Sem

/-- The host reference ends with its arguments unchanged; it has no semaphores. -/
theorem reference_frame : Cert.quiescent_MlpReferenceIdeal := fun m ρ _ =>
  (θ_run Cert.MlpReferenceIdeal.defs _ _).mono
    (fun r h => ⟨fun c => (h c).2, sem_eq_zero_of_no_sems (by decide) r.2⟩)
    (Cert.MlpReferenceIdeal.Value.run (F := Ideal) m ρ)

/-- So does the input projection's. -/
theorem in_reference_frame : Cert.quiescent_InReferenceIdeal := fun m ρ _ =>
  (θ_run Cert.InReferenceIdeal.defs _ _).mono
    (fun r h => ⟨fun c => (h c).2.2.2.2, sem_eq_zero_of_no_sems (by decide) r.2⟩)
    (Cert.InReferenceIdeal.Value.run (F := Ideal) m ρ)

theorem claim : Cert.Claim :=
  ⟨Cert.MlpKernel.Gen.facts, Cert.MlpKernelIdeal.Gen.facts, Cert.MlpReferenceIdeal.Gen.facts, Cert.InKernel.Gen.facts,
    Cert.InKernelIdeal.Gen.facts, Cert.InReferenceIdeal.Gen.facts, Cert.Pre_lse_finite.Gen.facts,
    fun m g _ => Cert.MlpKernel.Gen.frame m g,
    fun m g _ => Cert.MlpKernelIdeal.Gen.frame m g,
    fun m g _ => Cert.MlpKernelIdeal.Gen.frame m g,
    reference_frame,
    fun m g _ => reference_frame m g trivial,
    fun m g _ => Cert.InKernel.Gen.frame m g,
    fun m g _ => Cert.InKernelIdeal.Gen.frame m g,
    in_reference_frame,
    trivial,
    Cert.MlpClaim.algebraic,
    trivial,
    Cert.InClaim.algebraic⟩

end Cert.Proof

end
